-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_apart_pre_regular [hKernelIdeal : Cert.KernelIdeal.Facts] [hReferenceIdeal : Cert.ReferenceIdeal.Facts] [hPre_regular : Cert.Pre_regular.Facts] [hOn_apart : Cert.On_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v0_0) i = v0 c i)
          ∧ (∀ i : (⟨3, ![4096, 1, 2]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v3) i = v1 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.KernelIdeal.nD Cert.KernelIdeal.τ).loc Cert.KernelIdeal.main_v2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v31) i = v0 c i)
          ∧ (∀ i : (⟨3, ![4096, 1, 2]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v38) i = v1 c i)
          ∧ (∀ i : (⟨0, ![]⟩ : Shape).Idx, (Cert.On_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 i = 1#1 → r.2.mem ((c.tc : Thread Cert.ReferenceIdeal.nD Cert.ReferenceIdeal.τ).loc Cert.ReferenceIdeal.main_v40) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def holds_KernelIdeal_loss_close_pre_finite [hKernelIdeal : Cert.KernelIdeal.Facts] [hPre_finite : Cert.Pre_finite.Facts] [hPost_loss_close : Cert.Post_loss_close.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ (Cert.Post_loss_close.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v3)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_regular : Cert.Pre_regular.Facts) (hPre_finite : Cert.Pre_finite.Facts) (hPost_loss_close : Cert.Post_loss_close.Facts) (hOn_apart : Cert.On_apart.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_KernelIdeal_pre_finite (hKernelIdeal := hKernelIdeal) (hPre_finite := hPre_finite)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_on_apart_pre_regular (hKernelIdeal := hKernelIdeal) (hReferenceIdeal := hReferenceIdeal) (hPre_regular := hPre_regular) (hOn_apart := hOn_apart)
    ∧ holds_KernelIdeal_loss_close_pre_finite (hKernelIdeal := hKernelIdeal) (hPre_finite := hPre_finite) (hPost_loss_close := hPost_loss_close)
-- ==== On_apart.lean ====
abbrev S4096x256 : Shape := ⟨2, ![4096, 256]⟩
abbrev S256x4096 : Shape := ⟨2, ![256, 4096]⟩
abbrev S4096x2 : Shape := ⟨2, ![4096, 2]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x1x2 : Shape := ⟨3, ![4096, 1, 2]⟩

class Facts : Prop where
  reducesTo_S4096x256_S4096_d1 : S4096x256.ReducesTo [1] S4096
  h_S_ : 0 < S_.numel
  reducesTo_S256x4096_S4096_d0 : S256x4096.ReducesTo [0] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  bcast_S_S4096x1 : S_.BroadcastsInDim S4096x1 (![] : Fin 0 → Fin S4096x1.rank)
  bcast_S4096x1_S4096x1x2_0_1 : S4096x1.BroadcastsInDim S4096x1x2 (![0, 1] : Fin 2 → Fin S4096x1x2.rank)
  dot_S4096x256_S256x4096_S4096x4096_1_0_0_1_n_n_wf : DotDims.WF S4096x256 S256x4096 S4096x4096 [1] [0] [0] [1] [] []

variable [Facts]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def fn_part1 {F : FTy → Type} [FloatOps F] (main_v14 : FVec F S4096x4096 .f32) (main_v17 : FVec F S4096x4096 .f32) (main_v18 : FVec F S4096x4096 .f32) : IVec S4096x1 1 × IVec S4096x1x2 1 × IVec S_ 1 :=
  let main_v19 : FVec F S4096x4096 .f32 := subf main_v17 main_v18
  let main_cst_4 : FVec F S_ .f32 := constant S_ .f32 0x360637BD#32
  let main_v20 : FVec F S4096x4096 .f32 := broadcastInDim S4096x4096 ![] bcast_S_S4096x4096 main_cst_4
  let main_v21 : FVec F S4096x4096 .f32 := mulf main_v20 main_v19
  let main_v22 : FVec F S4096x4096 .f32 := addf main_v14 main_v21
  let main_cst_5 : FVec F S_ .f32 := constant S_ .f32 0x2F8CBCCC#32
  let main_v23 : FVec F S4096x4096 .f32 := broadcastInDim S4096x4096 ![] bcast_S_S4096x4096 main_cst_5
  let main_v24 : FVec F S4096x4096 .f32 := addf main_v22 main_v23
  let main_cst_6 : FVec F S_ .f32 := constant S_ .f32 0x7F800000#32
  let main_v25 : FVec F S4096 .f32 := (fun x v => Host.reduce FloatOps.minimumf x v reducesTo_S4096x4096_S4096_d1 h_S_) main_v24 main_cst_6
  let main_v26 : FVec F S4096x1 .f32 := broadcastInDim S4096x1 ![0] bcast_S4096_S4096x1_0 main_v25
  let main_cst_7 : FVec F S_ .f32 := constant S_ .f32 0x2F8CBCCC#32
  let main_v27 : FVec F S4096x1 .f32 := broadcastInDim S4096x1 ![] bcast_S_S4096x1 main_cst_7
  let main_v28 : IVec S4096x1 1 := cmpf .oge main_v26 main_v27
  let main_v29 : IVec S4096x1x2 1 := broadcastInDim S4096x1x2 ![0, 1] bcast_S4096x1_S4096x1x2_0_1 main_v28
  let main_c : IVec S_ 1 := constantI S_ 1 0#1
  (main_v28, main_v29, main_c)

def fn {F : FTy → Type} [FloatOps F] (main_arg0 : FVec F S4096x256 .f32) (main_arg1 : FVec F S256x4096 .f32) (main_arg2 : FVec F S4096x2 .f32) : IVec S4096x1 1 × IVec S4096x1x2 1 × IVec S_ 1 :=
  let main_v0 : FVec F S4096x256 .f32 := mulf main_arg0 main_arg0
  let main_cst : FVec F S_ .f32 := constant S_ .f32 0x00000000#32
  let main_v1 : FVec F S4096 .f32 := (fun x v => Host.reduceAdd x v reducesTo_S4096x256_S4096_d1 h_S_) main_v0 main_cst
  let main_v2 : FVec F S256x4096 .f32 := mulf main_arg1 main_arg1
  let main_cst_0 : FVec F S_ .f32 := constant S_ .f32 0x00000000#32
  let main_v3 : FVec F S4096 .f32 := (fun x v => Host.reduceAdd x v reducesTo_S256x4096_S4096_d0 h_S_) main_v2 main_cst_0
  let main_cst_1 : FVec F S_ .f32 := constant S_ .f32 0x00000000#32
  let main_v4 : FVec F S4096 .f32 := (fun x v => Host.reduceAdd x v reducesTo_S4096x256_S4096_d1 h_S_) main_arg0 main_cst_1
  let main_cst_2 : FVec F S_ .f32 := constant S_ .f32 0x00000000#32
  let main_v5 : FVec F S4096 .f32 := (fun x v => Host.reduceAdd x v reducesTo_S256x4096_S4096_d0 h_S_) main_arg1 main_cst_2
  let main_v6 : FVec F S4096x1 .f32 := broadcastInDim S4096x1 ![0] bcast_S4096_S4096x1_0 main_v1
  let main_v7 : FVec F S1x4096 .f32 := broadcastInDim S1x4096 ![1] bcast_S4096_S1x4096_1 main_v3
  let main_v8 : FVec F S4096x4096 .f32 := broadcastInDim S4096x4096 ![0, 1] bcast_S4096x1_S4096x4096_0_1 main_v6
  let main_v9 : FVec F S4096x4096 .f32 := broadcastInDim S4096x4096 ![0, 1] bcast_S1x4096_S4096x4096_0_1 main_v7
  let main_v10 : FVec F S4096x4096 .f32 := addf main_v8 main_v9
  let main_v11 : FVec F S4096x4096 .f32 := (fun l r => Host.dotGeneral dot_S4096x256_S256x4096_S4096x4096_1_0_0_1_n_n none l r) main_arg0 main_arg1
  let main_cst_3 : FVec F S_ .f32 := constant S_ .f32 0x40000000#32
  let main_v12 : FVec F S4096x4096 .f32 := broadcastInDim S4096x4096 ![] bcast_S_S4096x4096 main_cst_3
  let main_v13 : FVec F S4096x4096 .f32 := mulf main_v12 main_v11
  let main_v14 : FVec F S4096x4096 .f32 := subf main_v10 main_v13
  let main_v15 : FVec F S4096x1 .f32 := broadcastInDim S4096x1 ![0] bcast_S4096_S4096x1_0 main_v4
  let main_v16 : FVec F S1x4096 .f32 := broadcastInDim S1x4096 ![1] bcast_S4096_S1x4096_1 main_v5
  let main_v17 : FVec F S4096x4096 .f32 := broadcastInDim S4096x4096 ![0, 1] bcast_S4096x1_S4096x4096_0_1 main_v15
  let main_v18 : FVec F S4096x4096 .f32 := broadcastInDim S4096x4096 ![0, 1] bcast_S1x4096_S4096x4096_0_1 main_v16
  fn_part1 (F := F) main_v14 main_v17 main_v18
-- ==== Post_loss_close.lean ====
abbrev S4096x256 : Shape := ⟨2, ![4096, 256]⟩
abbrev S256x4096 : Shape := ⟨2, ![256, 4096]⟩
abbrev S4096x2 : Shape := ⟨2, ![4096, 2]⟩
abbrev S4096x1 : Shape := ⟨2, ![4096, 1]⟩
abbrev S4096x1x2 : Shape := ⟨3, ![4096, 1, 2]⟩
abbrev S_ : Shape := ⟨0, ![]⟩
abbrev S4096 : Shape := ⟨1, ![4096]⟩
abbrev S1x4096 : Shape := ⟨2, ![1, 4096]⟩
abbrev S4096x4096 : Shape := ⟨2, ![4096, 4096]⟩

class Facts : Prop where
  reducesTo_S4096x256_S4096_d1 : S4096x256.ReducesTo [1] S4096
  h_S_ : 0 < S_.numel
  reducesTo_S256x4096_S4096_d0 : S256x4096.ReducesTo [0] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  reducesTo_S4096x1_S_d0_1 : S4096x1.ReducesTo [0, 1] S_
  dot_S4096x256_S256x4096_S4096x4096_1_0_0_1_n_n_wf : DotDims.WF S4096x256 S256x4096 S4096x4096 [1] [0] [0] [1] [] []

variable [Facts]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def fn_part1 {F : FTy → Type} [FloatOps F] (main_arg5 : FVec F S_ .f32) (main_v14 : FVec F S4096x4096 .f32) (main_v17 : FVec F S4096x4096 .f32) (main_v18 : FVec F S4096x4096 .f32) : IVec S_ 1 :=
  let main_v19 : FVec F S4096x4096 .f32 := subf main_v17 main_v18
  let main_cst_4 : FVec F S_ .f32 := constant S_ .f32 0x360637BD#32
  let main_v20 : FVec F S4096x4096 .f32 := broadcastInDim S4096x4096 ![] bcast_S_S4096x4096 main_cst_4
  let main_v21 : FVec F S4096x4096 .f32 := mulf main_v20 main_v19
  let main_v22 : FVec F S4096x4096 .f32 := addf main_v14 main_v21
  let main_cst_5 : FVec F S_ .f32 := constant S_ .f32 0x2F8CBCCC#32
  let main_v23 : FVec F S4096x4096 .f32 := broadcastInDim S4096x4096 ![] bcast_S_S4096x4096 main_cst_5
  let main_v24 : FVec F S4096x4096 .f32 := addf main_v22 main_v23
  let main_cst_6 : FVec F S_ .f32 := constant S_ .f32 0x00000000#32
  let main_v25 : FVec F S4096x4096 .f32 := broadcastInDim S4096x4096 ![] bcast_S_S4096x4096 main_cst_6
  let main_v26 : FVec F S4096x4096 .f32 := maximumf main_v24 main_v25
  let main_v27 : FVec F S4096x4096 .f32 := Host.sqrt main_v26
  let main_cst_7 : FVec F S_ .f32 := constant S_ .f32 0x7F800000#32
  let main_v28 : FVec F S4096 .f32 := (fun x v => Host.reduce FloatOps.minimumf x v reducesTo_S4096x4096_S4096_d1 h_S_) main_v27 main_cst_7
  let main_v29 : FVec F S4096x1 .f32 := broadcastInDim S4096x1 ![0] bcast_S4096_S4096x1_0 main_v28
  let main_cst_8 : FVec F S_ .f32 := constant S_ .f32 0x00000000#32
  let main_v30 : FVec F S_ .f32 := (fun x v => Host.reduceAdd x v reducesTo_S4096x1_S_d0_1 h_S_) main_v29 main_cst_8
  let main_cst_9 : FVec F S_ .f32 := constant S_ .f32 0x45800000#32
  let main_v31 : FVec F S_ .f32 := Host.divf main_v30 main_cst_9
  let main_v32 : FVec F S_ .f32 := subf main_arg5 main_v31
  let main_v33 : FVec F S_ .f32 := Host.absf main_v32
  let main_cst_10 : FVec F S_ .f32 := constant S_ .f32 0x37A7C5AC#32
  let main_v34 : IVec S_ 1 := cmpf .ole main_v33 main_cst_10
  main_v34

def fn {F : FTy → Type} [FloatOps F] (main_arg0 : FVec F S4096x256 .f32) (main_arg1 : FVec F S256x4096 .f32) (main_arg2 : FVec F S4096x2 .f32) (main_arg3 : IVec S4096x1 32) (main_arg4 : FVec F S4096x1x2 .f32) (main_arg5 : FVec F S_ .f32) : IVec S_ 1 :=
  let main_v0 : FVec F S4096x256 .f32 := mulf main_arg0 main_arg0
  let main_cst : FVec F S_ .f32 := constant S_ .f32 0x00000000#32
  let main_v1 : FVec F S4096 .f32 := (fun x v => Host.reduceAdd x v reducesTo_S4096x256_S4096_d1 h_S_) main_v0 main_cst
  let main_v2 : FVec F S256x4096 .f32 := mulf main_arg1 main_arg1
  let main_cst_0 : FVec F S_ .f32 := constant S_ .f32 0x00000000#32
  let main_v3 : FVec F S4096 .f32 := (fun x v => Host.reduceAdd x v reducesTo_S256x4096_S4096_d0 h_S_) main_v2 main_cst_0
  let main_cst_1 : FVec F S_ .f32 := constant S_ .f32 0x00000000#32
  let main_v4 : FVec F S4096 .f32 := (fun x v => Host.reduceAdd x v reducesTo_S4096x256_S4096_d1 h_S_) main_arg0 main_cst_1
  let main_cst_2 : FVec F S_ .f32 := constant S_ .f32 0x00000000#32
  let main_v5 : FVec F S4096 .f32 := (fun x v => Host.reduceAdd x v reducesTo_S256x4096_S4096_d0 h_S_) main_arg1 main_cst_2
  let main_v6 : FVec F S4096x1 .f32 := broadcastInDim S4096x1 ![0] bcast_S4096_S4096x1_0 main_v1
  let main_v7 : FVec F S1x4096 .f32 := broadcastInDim S1x4096 ![1] bcast_S4096_S1x4096_1 main_v3
  let main_v8 : FVec F S4096x4096 .f32 := broadcastInDim S4096x4096 ![0, 1] bcast_S4096x1_S4096x4096_0_1 main_v6
  let main_v9 : FVec F S4096x4096 .f32 := broadcastInDim S4096x4096 ![0, 1] bcast_S1x4096_S4096x4096_0_1 main_v7
  let main_v10 : FVec F S4096x4096 .f32 := addf main_v8 main_v9
  let main_v11 : FVec F S4096x4096 .f32 := (fun l r => Host.dotGeneral dot_S4096x256_S256x4096_S4096x4096_1_0_0_1_n_n none l r) main_arg0 main_arg1
  let main_cst_3 : FVec F S_ .f32 := constant S_ .f32 0x40000000#32
  let main_v12 : FVec F S4096x4096 .f32 := broadcastInDim S4096x4096 ![] bcast_S_S4096x4096 main_cst_3
  let main_v13 : FVec F S4096x4096 .f32 := mulf main_v12 main_v11
  let main_v14 : FVec F S4096x4096 .f32 := subf main_v10 main_v13
  let main_v15 : FVec F S4096x1 .f32 := broadcastInDim S4096x1 ![0] bcast_S4096_S4096x1_0 main_v4
  let main_v16 : FVec F S1x4096 .f32 := broadcastInDim S1x4096 ![1] bcast_S4096_S1x4096_1 main_v5
  let main_v17 : FVec F S4096x4096 .f32 := broadcastInDim S4096x4096 ![0, 1] bcast_S4096x1_S4096x4096_0_1 main_v15
  let main_v18 : FVec F S4096x4096 .f32 := broadcastInDim S4096x4096 ![0, 1] bcast_S1x4096_S4096x4096_0_1 main_v16
  fn_part1 (F := F) main_arg5 main_v14 main_v17 main_v18
-- ==== Pre_finite.lean ====
abbrev S4096x256 : Shape := ⟨2, ![4096, 256]⟩
abbrev S256x4096 : Shape := ⟨2, ![256, 4096]⟩
abbrev S4096x2 : Shape := ⟨2, ![4096, 2]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_

variable [Facts]

def fn {F : FTy → Type} [FloatOps F] (main_arg0 : FVec F S4096x256 .f32) (main_arg1 : FVec F S256x4096 .f32) (main_arg2 : FVec F S4096x2 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x4096 .f32 := Host.absf main_arg1
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  main_v8
-- ==== Pre_regular.lean ====
abbrev S4096x256 : Shape := ⟨2, ![4096, 256]⟩
abbrev S256x4096 : Shape := ⟨2, ![256, 4096]⟩
abbrev S4096x2 : Shape := ⟨2, ![4096, 2]⟩
abbrev S_ : Shape := ⟨0, ![]⟩

class Facts : Prop where
  bcast_S_S4096x2 : S_.BroadcastsInDim S4096x2 (![] : Fin 0 → Fin S4096x2.rank)
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  reducesTo_S4096x2_S_d0_1 : S4096x2.ReducesTo [0, 1] S_

variable [Facts]

def fn_part1 {F : FTy → Type} [FloatOps F] (main_arg2 : FVec F S4096x2 .f32) (main_v9 : FVec F S4096x2 .f32) (main_v13 : IVec S_ 1) (main_v16 : IVec S256x4096 1) (main_c_4 : IVec S_ 1) : IVec S_ 1 :=
  let main_v17 : IVec S_ 1 := (fun x v => Host.reduce IntOp.andi x v reducesTo_S256x4096_S_d0_1 h_S_) main_v16 main_c_4
  let main_v18 : IVec S_ 1 := andi main_v13 main_v17
  let main_v19 : IVec S4096x2 1 := cmpf .oeq main_arg2 main_v9
  let main_c_5 : IVec S_ 1 := constantI S_ 1 1#1
  let main_v20 : IVec S_ 1 := (fun x v => Host.reduce IntOp.andi x v reducesTo_S4096x2_S_d0_1 h_S_) main_v19 main_c_5
  let main_v21 : IVec S_ 1 := andi main_v18 main_v20
  main_v21

def fn {F : FTy → Type} [FloatOps F] (main_arg0 : FVec F S4096x256 .f32) (main_arg1 : FVec F S256x4096 .f32) (main_arg2 : FVec F S4096x2 .f32) : IVec S_ 1 :=
  let main_v0 : IVec S4096x2 32 := iotaInDim S4096x2 32 0
  let main_v1 : IVec S4096x2 32 := iotaInDim S4096x2 32 1
  let main_c : IVec S_ 32 := constantI S_ 32 0#32
  let main_v2 : IVec S4096x2 32 := broadcastInDim S4096x2 ![] bcast_S_S4096x2 main_c
  let main_v3 : IVec S4096x2 1 := cmpi .eq main_v1 main_v2
  let main_c_0 : IVec S_ 32 := constantI S_ 32 6#32
  let main_v4 : IVec S4096x2 32 := broadcastInDim S4096x2 ![] bcast_S_S4096x2 main_c_0
  let main_v5 : IVec S4096x2 32 := Host.shrsi main_v0 main_v4
  let main_c_1 : IVec S_ 32 := constantI S_ 32 63#32
  let main_v6 : IVec S4096x2 32 := broadcastInDim S4096x2 ![] bcast_S_S4096x2 main_c_1
  let main_v7 : IVec S4096x2 32 := andi main_v0 main_v6
  let main_v8 : IVec S4096x2 32 := select main_v3 main_v5 main_v7
  let main_v9 : FVec F S4096x2 .f32 := sitofp .f32 main_v8
  let main_v10 : FVec F S4096x256 .f32 := Host.absf main_arg0
  let main_cst : FVec F S_ .f32 := constant S_ .f32 0x7F800000#32
  let main_v11 : FVec F S4096x256 .f32 := broadcastInDim S4096x256 ![] bcast_S_S4096x256 main_cst
  let main_v12 : IVec S4096x256 1 := cmpf .olt main_v10 main_v11
  let main_c_2 : IVec S_ 1 := constantI S_ 1 1#1
  let main_v13 : IVec S_ 1 := (fun x v => Host.reduce IntOp.andi x v reducesTo_S4096x256_S_d0_1 h_S_) main_v12 main_c_2
  let main_v14 : FVec F S256x4096 .f32 := Host.absf main_arg1
  let main_cst_3 : FVec F S_ .f32 := constant S_ .f32 0x7F800000#32
  let main_v15 : FVec F S256x4096 .f32 := broadcastInDim S256x4096 ![] bcast_S_S256x4096 main_cst_3
  let main_v16 : IVec S256x4096 1 := cmpf .olt main_v14 main_v15
  let main_c_4 : IVec S_ 1 := constantI S_ 1 1#1
  fn_part1 (F := F) main_arg2 main_v9 main_v13 main_v16 main_c_4
-- ==== Kernel.lean ====
abbrev S4096x256 : Shape := ⟨2, ![4096, 256]⟩
abbrev S256x4096 : Shape := ⟨2, ![256, 4096]⟩
abbrev S4096x2 : Shape := ⟨2, ![4096, 2]⟩
abbrev S4096x1 : Shape := ⟨2, ![4096, 1]⟩
abbrev S1x1 : Shape := ⟨2, ![1, 1]⟩
abbrev S512x256 : Shape := ⟨2, ![512, 256]⟩
abbrev S512x1 : Shape := ⟨2, ![512, 1]⟩
abbrev S512x2 : Shape := ⟨2, ![512, 2]⟩
abbrev S1x4096 : Shape := ⟨2, ![1, 4096]⟩
abbrev S2x1 : Shape := ⟨2, ![2, 1]⟩
abbrev S4096 : Shape := ⟨1, ![4096]⟩
abbrev S1x1x4096 : Shape := ⟨3, ![1, 1, 4096]⟩
abbrev S1 : Shape := ⟨1, ![1]⟩
abbrev S1x1x1 : Shape := ⟨3, ![1, 1, 1]⟩
abbrev S256x2048 : Shape := ⟨2, ![256, 2048]⟩
abbrev S512x2048 : Shape := ⟨2, ![512, 2048]⟩
abbrev S512 : Shape := ⟨1, ![512]⟩
abbrev S1x2048 : Shape := ⟨2, ![1, 2048]⟩
abbrev S1x512x1 : Shape := ⟨3, ![1, 512, 1]⟩
abbrev S_ : Shape := ⟨0, ![]⟩
abbrev S4096x1x2 : Shape := ⟨3, ![4096, 1, 2]⟩

abbrev nBuf : Space → Nat
  | .hbm => 10
  | .vmem => 11
  | .smem => 2
  | _ => 0

abbrev bufTy : (tb : Table) → Fin (tcTables nBuf tb) → BufTy
  | .hbm, ⟨0, _⟩ => ⟨S4096x256, .f32⟩
  | .hbm, ⟨1, _⟩ => ⟨S256x4096, .f32⟩
  | .hbm, ⟨2, _⟩ => ⟨S4096x2, .f32⟩
  | .hbm, ⟨3, _⟩ => ⟨S4096x1, .i32⟩
  | .hbm, ⟨4, _⟩ => ⟨S4096x2, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x1x2, .f32⟩
  | .local _ .vmem, ⟨0, _⟩ => ⟨S512x256, .f32⟩
  | .local _ .vmem, ⟨1, _⟩ => ⟨S512x256, .f32⟩
  | .local _ .vmem, ⟨2, _⟩ => ⟨S256x4096, .f32⟩
  | .local _ .vmem, ⟨3, _⟩ => ⟨S512x1, .i32⟩
  | .local _ .vmem, ⟨4, _⟩ => ⟨S512x1, .i32⟩
  | .local _ .vmem, ⟨5, _⟩ => ⟨S512x2, .f32⟩
  | .local _ .vmem, ⟨6, _⟩ => ⟨S512x2, .f32⟩
  | .local _ .vmem, ⟨7, _⟩ => ⟨S1x1, .f32⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .smem, ⟨0, _⟩ => ⟨S1x1, .f32⟩
  | .local _ .smem, ⟨1, _⟩ => ⟨S2x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v101 : BitVec 1 := Scalar.cmpi .eq arg0 c7_i32
  let v102 : BitVec 32 := Scalar.extui v101
  let c0_i32_45 : BitVec 32 := 0#32
  let v103 : BitVec 1 := Scalar.cmpi .ne v102 c0_i32_45
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x256 : Shape := ⟨2, ![4096, 256]⟩
abbrev S256x4096 : Shape := ⟨2, ![256, 4096]⟩
abbrev S4096x2 : Shape := ⟨2, ![4096, 2]⟩
abbrev S_ : Shape := ⟨0, ![]⟩
abbrev S4096 : Shape := ⟨1, ![4096]⟩
abbrev S4096x4096 : Shape := ⟨2, ![4096, 4096]⟩
abbrev S4096x1 : Shape := ⟨2, ![4096, 1]⟩
abbrev S1x4096 : Shape := ⟨2, ![1, 4096]⟩
abbrev S4096x1x1 : Shape := ⟨3, ![4096, 1, 1]⟩
abbrev S4096x1x2 : Shape := ⟨3, ![4096, 1, 2]⟩

abbrev nBuf : Space → Nat
  | .hbm => 61
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x4096, .f32⟩
  | .hbm, ⟨2, _⟩ => ⟨S4096x2, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S256x4096, .f32⟩
  | .hbm, ⟨7, _⟩ => ⟨S_, .f32⟩
  | .hbm, ⟨8, _⟩ => ⟨S4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x4096, .i32⟩
  | .hbm, ⟨43, _⟩ => ⟨S_, .f32⟩
  | .hbm, ⟨44, _⟩ => ⟨S_, .i32⟩
  | .hbm, ⟨45, _⟩ => ⟨S4096, .f32⟩
  | .hbm, ⟨46, _⟩ => ⟨S4096, .i32⟩
  | .hbm, ⟨47, _⟩ => ⟨S4096x1, .i32⟩
  | .hbm, ⟨48, _⟩ => ⟨S_, .i32⟩
  | .hbm, ⟨49, _⟩ => ⟨S4096x1, .i32⟩
  | .hbm, ⟨50, _⟩ => ⟨S4096x1, .i1⟩
  | .hbm, ⟨51, _⟩ => ⟨S_, .i32⟩
  | .hbm, ⟨52, _⟩ => ⟨S4096x1, .i32⟩
  | .hbm, ⟨53, _⟩ => ⟨S4096x1, .i32⟩
  | .hbm, ⟨54, _⟩ => ⟨S4096x1, .i32⟩
  | .hbm, ⟨55, _⟩ => ⟨S4096x1x1, .i32⟩
  | .hbm, ⟨56, _⟩ => ⟨S4096x1x2, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_cst : Ref sig .tc := ⟨.hbm, 43, rfl⟩
abbrev main_call0_c : Ref sig .tc := ⟨.hbm, 44, rfl⟩
abbrev main_call0_v1_0 : Ref sig .tc := ⟨.hbm, 45, rfl⟩
abbrev main_v30 : Ref sig .tc := ⟨.hbm, 46, rfl⟩
abbrev main_v31 : Ref sig .tc := ⟨.hbm, 47, rfl⟩
abbrev main_c : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.KernelIdeal.Vals.lean ====
module

public import proofs.«01_k».proof.Proof.Gen.KernelIdeal.Frame
public import proofs.«01_k».proof.Proof.Gen.KernelIdeal.Skeleton
public import Idealize.ShloMosaic.Lib.VecWindow

/-! What one grid point of the kernel computes, as functions of what it finds: the block of rows `x`, the
    weights `w`, the squared norms `s0`, the sums `s1` and the numbers `s2` of the weights' columns, and
    the two bounds `s4` on the columns. -/

@[expose] public section

set_option maxRecDepth 16384

noncomputable section

namespace Cert.KernelIdeal.Body

open Cert.KernelIdeal.Gen
open Idealize.ShloMosaic

variable {F : FTy → Type} [FloatOps F]

/-- The first 2048 columns of a row. -/
def c0 (s : Vec F S1x4096 .f32) : Vec F S1x2048 .f32 :=
  View.ld s (Rect.unit (s := S1x4096) ![0, 0] S1x2048.size Gen.facts.inb_S1x4096_S1x2048_0_0)
/-- The last 2048 columns of a row. -/
def c1 (s : Vec F S1x4096 .f32) : Vec F S1x2048 .f32 :=
  View.ld s (Rect.unit (s := S1x4096) ![0, 2048] S1x2048.size Gen.facts.inb_S1x4096_S1x2048_0_2048)
/-- The first 2048 columns of the weights. -/
def w0 (w : Vec F S256x4096 .f32) : Vec F S256x2048 .f32 :=
  View.ld w (Rect.unit (s := S256x4096) ![0, 0] S256x2048.size Gen.facts.inb_S256x4096_S256x2048_0_0)
/-- The last 2048 columns of the weights. -/
def w1 (w : Vec F S256x4096 .f32) : Vec F S256x2048 .f32 :=
  View.ld w (Rect.unit (s := S256x4096) ![0, 2048] S256x2048.size Gen.facts.inb_S256x4096_S256x2048_0_2048)
/-- The bound on the squared norms. -/
def b0 (s : Vec F S2x1 .f32) : F .f32 :=
  View.ld s (Rect.unit (s := S2x1) ![0, 0] S1x1.size Gen.facts.inb_S2x1_S1x1_0_0) (Shape.Idx.first (Gen.facts.h_S1x1))
/-- The bound on the sums. -/
def b1 (s : Vec F S2x1 .f32) : F .f32 :=
  View.ld s (Rect.unit (s := S2x1) ![1, 0] S1x1.size Gen.facts.inb_S2x1_S1x1_1_0) (Shape.Idx.first (Gen.facts.h_S1x1))

variable (x : Vec F S512x256 .f32) (w : Vec F S256x4096 .f32) (s0 s1 s2 : Vec F S1x4096 .f32) (s4 : Vec F S2x1 .f32)

/-- The least of the squared norms less twice the products. -/
def least : FVec F S512x1 .f32 := k0_pay28 x (w0 w) (w1 w) (c0 s0) (c1 s0)
/-- By how much some row has more than one candidate column. -/
def spread : F .f32 :=
  k0_pay36 (k0_pay25 x) (k0_pay26 x (w0 w) (c0 s0)) (k0_pay27 x (w1 w) (c1 s0)) (least x w s0) (b1 s4)
    (k0_pay29 x (b0 s4)) (k0_pay30 x) (k0_pay31 (b0 s4)) (c0 s2) (c1 s2)
/-- The column found when every row has one candidate. -/
def quickIdx : IVec S512x1 32 :=
  k0_pay37 (k0_pay25 x) (k0_pay26 x (w0 w) (c0 s0)) (k0_pay27 x (w1 w) (c1 s0)) (least x w s0) (b1 s4)
    (k0_pay29 x (b0 s4)) (k0_pay30 x) (k0_pay31 (b0 s4)) (c0 s2) (c1 s2)
/-- Some row has more than one candidate: the branch that compares the distances themselves is taken. -/
abbrev doubtful : Prop :=
  Scalar.cmpi .ne (Scalar.extui (Scalar.cmpf .ogt (spread x w s0 s2 s4) (FloatOps.ofBits .f32 0x3F000000#32))) 0#32 = 1#1
/-- The squared distances to the first 2048 columns. -/
def sq0 : FVec F S512x2048 .f32 := k0_pay6 (k0_pay22 x (w0 w)) (k0_pay24 x) (k0_pay25 x) (c0 s0) (c0 s1)
/-- The squared distances to the last 2048 columns. -/
def sq1 : FVec F S512x2048 .f32 := k0_pay7 (k0_pay23 x (w1 w)) (k0_pay24 x) (k0_pay25 x) (c1 s0) (c1 s1)
/-- The least distance. -/
def root : FVec F S512x1 .f32 :=
  k0_pay9 (k0_pay22 x (w0 w)) (k0_pay23 x (w1 w)) (k0_pay24 x) (k0_pay25 x) (c0 s0) (c0 s1) (c1 s0) (c1 s1)
/-- The threshold below which a squared distance is taken to be least. -/
def bound : FVec F S512x1 .f32 :=
  k0_pay10 (k0_pay22 x (w0 w)) (k0_pay23 x (w1 w)) (k0_pay24 x) (k0_pay25 x) (c0 s0) (c0 s1) (c1 s0) (c1 s1)
/-- The column found by comparing the distances. -/
def slowIdx : IVec S512x1 32 := k0_pay11 (sq0 x w s0 s1) (sq1 x w s0 s1) (bound x w s0 s1) (c0 s2) (c1 s2)
/-- Its place on the map. -/
def slowLoc : FVec F S512x2 .f32 := k0_pay12 (sq0 x w s0 s1) (sq1 x w s0 s1) (bound x w s0 s1) (c0 s2) (c1 s2)
/-- The total after the block, from the total `a` before it. -/
def quickAcc (a : F .f32) : F .f32 := k0_pay3 (k0_pay24 x) (least x w s0) a
/-- The total when the distances are compared. -/
def slowAcc (a : F .f32) : F .f32 :=
  k0_pay4 (quickAcc x w s0 a) (k0_pay13 (k0_pay2 (k0_pay24 x) (least x w s0)) (root x w s0 s1))

open Classical in
/-- The columns the block writes. -/
def outIdx : IVec S512x1 32 := if doubtful x w s0 s2 s4 then slowIdx x w s0 s1 s2 else quickIdx x w s0 s2 s4
open Classical in
/-- The places the block writes. -/
def outLoc : FVec F S512x2 .f32 := if doubtful x w s0 s2 s4 then slowLoc x w s0 s1 s2 else k0_pay1 (quickIdx x w s0 s2 s4)
open Classical in
/-- The total the block leaves. -/
def outAcc (a : F .f32) : F .f32 := if doubtful x w s0 s2 s4 then slowAcc x w s0 s1 a else quickAcc x w s0 a

/-- The two bounds the first point stores. -/
def bounds : Vec F S2x1 .f32 := fun j => if (j 0).val = 0 then k0_pay19 w else k0_pay20 w

end Cert.KernelIdeal.Body
end
-- ==== Proof.KernelIdeal.Run.lean ====
module

public import proofs.«01_k».proof.Proof.KernelIdeal.Vals
public import Idealize.ShloMosaic.Lib.Pipeline.Value

/-! The kernel's body run once, at the first point (scratch at anything) and at a later one (scratch as the
    point before left it). -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The grid point is the first, as the kernel tests it. -/
abbrev atFirst (i : grid0.Coords) : Prop :=
  Scalar.cmpi .ne (Scalar.extui (Scalar.cmpi .eq (BitVec.ofNat 32 (i 0).val) 0#32)) 0#32 = 1#1

theorem zeros : (![0, 0] : Fin 2 → Nat) = fun _ => 0 := by decide

/-- A load of the whole block of rows is the block. -/
theorem ld_rows (x : Vec F S512x256 .f32) (inb : ∀ a, (![0, 0] : Fin 2 → Nat) a + (![512, 256] : Fin 2 → Nat) a ≤ S512x256.size a) :
    View.ld x (Rect.unit ![0, 0] ![512, 256] inb) = x := View.ld_unit_zero zeros _ _

/-- A load of the whole weights is the weights. -/
theorem ld_weights (w : Vec F S256x4096 .f32) (inb : ∀ a, (![0, 0] : Fin 2 → Nat) a + (![256, 4096] : Fin 2 → Nat) a ≤ S256x4096.size a) :
    View.ld w (Rect.unit ![0, 0] ![256, 4096] inb) = w := View.ld_unit_zero zeros _ _

/-- A load of part of a row just stored whole reads that part of what was stored. -/
theorem readCov_row {sp : Space} (v : View sig .tc sp S1x4096 .f32) (p : Vec F S1x4096 .f32) (off : Fin 2 → Nat)
    (inb' : ∀ a, (![0, 0] : Fin 2 → Nat) a + (![1, 4096] : Fin 2 → Nat) a ≤ S1x4096.size a) (inb : ∀ a, off a + (![1, 2048] : Fin 2 → Nat) a ≤ S1x4096.size a) :
    v.readCov (Val := Elt F) [⟨Rect.unit ![0, 0] ![1, 4096] inb', p⟩] (Rect.unit off ![1, 2048] inb).toLoadRect
      = View.ld p (Rect.unit off ![1, 2048] inb) := by
  unfold View.readCov
  rw [View.readAt_eq_ld, View.read_writes_full (s := S1x4096)]

/-- The two bounds as stored one after the other. -/
theorem read_bounds {sp : Space} (v : View sig .tc sp S2x1 .f32) (f : v.ty.Contents (Elt F)) (w : Vec F S256x4096 .f32)
    (inb : ∀ a, (![1, 0] : Fin 2 → Nat) a + (![1, 1] : Fin 2 → Nat) a ≤ S2x1.size a) (inb' : ∀ a, (![0, 0] : Fin 2 → Nat) a + (![1, 1] : Fin 2 → Nat) a ≤ S2x1.size a) :
    v.read (Elt F) (v.writes (Elt F) f [⟨Rect.unit ![1, 0] ![1, 1] inb, fun _ => k0_pay20 w⟩, ⟨Rect.unit ![0, 0] ![1, 1] inb', fun _ => k0_pay19 w⟩])
      = bounds w := by
  funext j
  have h1 : (j 1).val < 1 := (j 1).isLt
  have h0 : (j 0).val < 2 := (j 0).isLt
  unfold bounds
  by_cases h : (j 0).val = 0
  · rw [View.read_writes_cons_unit_of_not_mem v f inb _ _ j rfl 0 (Or.inl (by rw [h]; decide)), if_pos h]
    refine (View.read_writes_cons_unit v f inb' _ _ j rfl).trans (dif_pos fun a => ?_)
    match a with
    | 0 => exact ⟨Nat.zero_le _, by show _ < 0 + 1; omega⟩
    | 1 => exact ⟨Nat.zero_le _, by show _ < 0 + 1; omega⟩
  · rw [if_neg h]
    refine (View.read_writes_cons_unit v f inb _ _ j rfl).trans (dif_pos fun a => ?_)
    match a with
    | 0 => exact ⟨by show 1 ≤ _; omega, by show _ < 1 + 1; omega⟩
    | 1 => exact ⟨Nat.zero_le _, by show _ < 0 + 1; omega⟩

/-- What the body leaves in its buffers, from the scratch contents it computes with and the total `a` before it. -/
def leaves (c : Dev nD) (i : grid0.Coords) (arg1 : Memref sig .tc .vmem S512x256 .f32) (arg2 : Memref sig .tc .vmem S256x4096 .f32)
    (arg3 : Memref sig .tc .vmem S512x1 .i32) (arg4 : Memref sig .tc .vmem S512x2 .f32) (arg5 : Memref sig .tc .vmem S1x1 .f32)
    (arg6 arg7 arg8 : Memref sig .tc .vmem S1x4096 .f32) (arg9 : Memref sig .tc .smem S1x1 .f32) (arg10 : Memref sig .tc .smem S2x1 .f32)
    (x : Vec F S512x256 .f32) (w : Vec F S256x4096 .f32) (s0 s1 s2 : Vec F S1x4096 .f32) (s4 : Vec F S2x1 .f32) (a : F .f32) (l : Vec F S1x1 .f32) : sProp 𝕄 :=
  iprop(owns (c : Thread nD τ) arg1 fullShare x ∗ owns (c : Thread nD τ) arg2 fullShare w
    ∗ owns (c : Thread nD τ) arg3 fullShare (outIdx x w s0 s1 s2 s4) ∗ owns (c : Thread nD τ) arg4 fullShare (outLoc x w s0 s1 s2 s4)
    ∗ owns (c : Thread nD τ) arg5 fullShare (if k0_cond3 i = 1#1 then k0_pay5 (outAcc x w s0 s1 s2 s4 a) else l)
    ∗ owns (c : Thread nD τ) arg6 fullShare s0 ∗ owns (c : Thread nD τ) arg7 fullShare s1 ∗ owns (c : Thread nD τ) arg8 fullShare s2
    ∗ owns (c : Thread nD τ) arg9 fullShare (fun _ => outAcc x w s0 s1 s2 s4 a) ∗ owns (c : Thread nD τ) arg10 fullShare s4)

set_option maxHeartbeats 4000000 in
/-- The first point: the scratch is at anything, and is set from the weights. -/
theorem run_first (c : Dev nD) (i : grid0.Coords)
    (arg1 : Memref sig .tc .vmem S512x256 .f32) (harg1 : arg1.IsWhole) (arg2 : Memref sig .tc .vmem S256x4096 .f32) (harg2 : arg2.IsWhole)
    (arg3 : Memref sig .tc .vmem S512x1 .i32) (harg3 : arg3.IsWhole) (arg4 : Memref sig .tc .vmem S512x2 .f32) (harg4 : arg4.IsWhole)
    (arg5 : Memref sig .tc .vmem S1x1 .f32) (harg5 : arg5.IsWhole) (arg6 : Memref sig .tc .vmem S1x4096 .f32) (harg6 : arg6.IsWhole)
    (arg7 : Memref sig .tc .vmem S1x4096 .f32) (harg7 : arg7.IsWhole) (arg8 : Memref sig .tc .vmem S1x4096 .f32) (harg8 : arg8.IsWhole)
    (arg9 : Memref sig .tc .smem S1x1 .f32) (harg9 : arg9.IsWhole) (arg10 : Memref sig .tc .smem S2x1 .f32) (harg10 : arg10.IsWhole)
    (x : Vec F S512x256 .f32) (w : Vec F S256x4096 .f32) (l : Vec F S1x1 .f32) (E : Set ℕ) (K : PUnit → sProp 𝕄) (h : atFirst i) :
    iprop(owns (c : Thread nD τ) arg1 fullShare x ∗ owns (c : Thread nD τ) arg2 fullShare w ∗ (∃ d, owns (c : Thread nD τ) arg3 fullShare d)
        ∗ (∃ d, owns (c : Thread nD τ) arg4 fullShare d) ∗ owns (c : Thread nD τ) arg5 fullShare l
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (leaves c i arg1 arg2 arg3 arg4 arg5 arg6 arg7 arg8 arg9 arg10 x w (k0_pay16 w) (k0_pay17 w) k0_pay18 (bounds w) (FloatOps.ofBits .f32 0x00000000#32) l -∗ K ⟨⟩))
      ⊢ wp frame (wpE (defs₀ (F := F)) Variants.none c none) E (cc0__som_tile_kernel i arg1 harg1 arg2 harg2 arg3 harg3 arg4 harg4 arg5 harg5 arg6 harg6 arg7 harg7 arg8 harg8 arg9 harg9 arg10 harg10) K := by
  simp only [cc0__som_tile_kernel_eq_skeleton]; unfold cc0__som_tile_kernel_skel
  simp only [k0_part3_eq_skeleton, k0_part4_eq_skeleton, k0_part1_eq_skeleton, k0_part2_eq_skeleton]
  unfold leaves owns
  iintro ⟨⟨%f0, %hf0, H0⟩, ⟨%f1, %hf1, H1⟩, ⟨%d2, %f2, -, H2⟩, ⟨%d3, %f3, -, H3⟩, ⟨%f4, %hf4, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg5.eq_unread hf4
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_run_names
    simp only [View.readAt_eq_ld, Memref.IsWhole.read_unread, ld_rows, ld_weights, readCov_row]
    unfold outIdx
    split
    · rename_i hd; rw [View.read_writes_full]; exact (if_pos (c := doubtful x w (k0_pay16 w) k0_pay18 (bounds w)) hd).symm
    · rename_i hd; rw [View.read_writes_full]; exact (if_neg (c := doubtful x w (k0_pay16 w) k0_pay18 (bounds w)) hd).symm
  isplitl [H3]
  · iexists _; isplitr; swap; · iexact H3
    ipureintro
    sl_unfold_run_names
    simp only [View.readAt_eq_ld, Memref.IsWhole.read_unread, ld_rows, ld_weights, readCov_row]
    unfold outLoc
    split
    · rename_i hd; rw [View.read_writes_full]; exact (if_pos (c := doubtful x w (k0_pay16 w) k0_pay18 (bounds w)) hd).symm
    · rename_i hd; rw [View.read_writes_full]; exact (if_neg (c := doubtful x w (k0_pay16 w) k0_pay18 (bounds w)) hd).symm
  isplitl [H4]
  · iexists _; isplitr; swap; · iexact H4
    ipureintro
    sl_unfold_run_names
    simp only [View.readAt_eq_ld, Memref.IsWhole.read_unread, ld_rows, ld_weights, readCov_row]
    split
    · rw [View.read_writes_full]
      unfold outAcc
      split
      · rename_i hd; rw [View.read_writes_full]; exact congrArg k0_pay5 (if_pos (c := doubtful x w (k0_pay16 w) k0_pay18 (bounds w)) hd).symm
      · rename_i hd; rw [View.read_writes_full]; exact congrArg k0_pay5 (if_neg (c := doubtful x w (k0_pay16 w) k0_pay18 (bounds w)) hd).symm
    · exact harg5.read_unread _
  isplitl [HS0]
  · iexists _; isplitr; swap; · iexact HS0
    ipureintro
    sl_unfold_run_names
    simp only [View.readAt_eq_ld, Memref.IsWhole.read_unread, ld_weights]
    exact View.read_writes_full _ _ _ _ _
  isplitl [HS1]
  · iexists _; isplitr; swap; · iexact HS1
    ipureintro
    sl_unfold_run_names
    simp only [View.readAt_eq_ld, Memref.IsWhole.read_unread, ld_weights]
    exact View.read_writes_full _ _ _ _ _
  isplitl [HS2]
  · iexists _; isplitr; swap; · iexact HS2
    ipureintro
    sl_unfold_run_names
    simp only [View.readAt_eq_ld, Memref.IsWhole.read_unread, ld_weights]
    exact View.read_writes_full _ _ _ _ _
  isplitl [HS3]
  · iexists _; isplitr; swap; · iexact HS3
    ipureintro
    sl_unfold_run_names
    simp only [View.readAt_eq_ld, Memref.IsWhole.read_unread, ld_rows, ld_weights, readCov_row]
    unfold outAcc
    split
    · rename_i hd; rw [View.read_writes_full]; exact congrArg (fun z _ => z) (if_pos (c := doubtful x w (k0_pay16 w) k0_pay18 (bounds w)) hd).symm
    · rename_i hd; rw [View.read_writes_full]; exact congrArg (fun z _ => z) (if_neg (c := doubtful x w (k0_pay16 w) k0_pay18 (bounds w)) hd).symm
  iexists _; isplitr; swap; · iexact HS4
  ipureintro
  sl_unfold_run_names
  simp only [View.readAt_eq_ld, Memref.IsWhole.read_unread, ld_weights]
  exact read_bounds _ _ w _ _

set_option maxHeartbeats 4000000 in
/-- A later point: the scratch is as the point before left it. -/
theorem run_later (c : Dev nD) (i : grid0.Coords)
    (arg1 : Memref sig .tc .vmem S512x256 .f32) (harg1 : arg1.IsWhole) (arg2 : Memref sig .tc .vmem S256x4096 .f32) (harg2 : arg2.IsWhole)
    (arg3 : Memref sig .tc .vmem S512x1 .i32) (harg3 : arg3.IsWhole) (arg4 : Memref sig .tc .vmem S512x2 .f32) (harg4 : arg4.IsWhole)
    (arg5 : Memref sig .tc .vmem S1x1 .f32) (harg5 : arg5.IsWhole) (arg6 : Memref sig .tc .vmem S1x4096 .f32) (harg6 : arg6.IsWhole)
    (arg7 : Memref sig .tc .vmem S1x4096 .f32) (harg7 : arg7.IsWhole) (arg8 : Memref sig .tc .vmem S1x4096 .f32) (harg8 : arg8.IsWhole)
    (arg9 : Memref sig .tc .smem S1x1 .f32) (harg9 : arg9.IsWhole) (arg10 : Memref sig .tc .smem S2x1 .f32) (harg10 : arg10.IsWhole)
    (x : Vec F S512x256 .f32) (w : Vec F S256x4096 .f32) (s0 s1 s2 : Vec F S1x4096 .f32) (a : F .f32) (s4 : Vec F S2x1 .f32) (l : Vec F S1x1 .f32) (E : Set ℕ) (K : PUnit → sProp 𝕄) (h : ¬ atFirst i) :
    iprop(owns (c : Thread nD τ) arg1 fullShare x ∗ owns (c : Thread nD τ) arg2 fullShare w ∗ (∃ d, owns (c : Thread nD τ) arg3 fullShare d)
        ∗ (∃ d, owns (c : Thread nD τ) arg4 fullShare d) ∗ owns (c : Thread nD τ) arg5 fullShare l
        ∗ owns (c : Thread nD τ) arg6 fullShare s0 ∗ owns (c : Thread nD τ) arg7 fullShare s1 ∗ owns (c : Thread nD τ) arg8 fullShare s2
        ∗ owns (c : Thread nD τ) arg9 fullShare (fun _ => a) ∗ owns (c : Thread nD τ) arg10 fullShare s4
        ∗ (leaves c i arg1 arg2 arg3 arg4 arg5 arg6 arg7 arg8 arg9 arg10 x w s0 s1 s2 s4 a l -∗ K ⟨⟩))
      ⊢ wp frame (wpE (defs₀ (F := F)) Variants.none c none) E (cc0__som_tile_kernel i arg1 harg1 arg2 harg2 arg3 harg3 arg4 harg4 arg5 harg5 arg6 harg6 arg7 harg7 arg8 harg8 arg9 harg9 arg10 harg10) K := by
  simp only [cc0__som_tile_kernel_eq_skeleton]; unfold cc0__som_tile_kernel_skel
  simp only [k0_part3_eq_skeleton, k0_part4_eq_skeleton, k0_part1_eq_skeleton, k0_part2_eq_skeleton]
  unfold leaves owns
  iintro ⟨⟨%f0, %hf0, H0⟩, ⟨%f1, %hf1, H1⟩, ⟨%d2, %f2, -, H2⟩, ⟨%d3, %f3, -, H3⟩, ⟨%f4, %hf4, H4⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg1.eq_unread hf0; obtain rfl := harg2.eq_unread hf1; obtain rfl := harg5.eq_unread hf4
  obtain rfl := harg6.eq_unread hfs0; obtain rfl := harg7.eq_unread hfs1; obtain rfl := harg8.eq_unread hfs2
  obtain rfl := harg9.eq_unread hfs3; obtain rfl := harg10.eq_unread hfs4
  sl_exec (disch := first | sl_exact h)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    sl_unfold_run_names
    simp only [View.readAt_eq_ld, Memref.IsWhole.read_unread, ld_rows]
    unfold outIdx
    split
    · rename_i hd; rw [View.read_writes_full]; exact (if_pos (c := doubtful x w s0 s2 s4) hd).symm
    · rename_i hd; rw [View.read_writes_full]; exact (if_neg (c := doubtful x w s0 s2 s4) hd).symm
  isplitl [H3]
  · iexists _; isplitr; swap; · iexact H3
    ipureintro
    sl_unfold_run_names
    simp only [View.readAt_eq_ld, Memref.IsWhole.read_unread, ld_rows]
    unfold outLoc
    split
    · rename_i hd; rw [View.read_writes_full]; exact (if_pos (c := doubtful x w s0 s2 s4) hd).symm
    · rename_i hd; rw [View.read_writes_full]; exact (if_neg (c := doubtful x w s0 s2 s4) hd).symm
  isplitl [H4]
  · iexists _; isplitr; swap; · iexact H4
    ipureintro
    sl_unfold_run_names
    simp only [View.readAt_eq_ld, Memref.IsWhole.read_unread, ld_rows]
    split
    · rw [View.read_writes_full]
      unfold outAcc
      split
      · rename_i hd; rw [View.read_writes_full]; exact congrArg k0_pay5 (if_pos (c := doubtful x w s0 s2 s4) hd).symm
      · rename_i hd; rw [View.read_writes_full]; exact congrArg k0_pay5 (if_neg (c := doubtful x w s0 s2 s4) hd).symm
    · exact harg5.read_unread _
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; swap; · iexact HS3
    ipureintro
    sl_unfold_run_names
    simp only [View.readAt_eq_ld, Memref.IsWhole.read_unread, ld_rows]
    unfold outAcc
    split
    · rename_i hd; rw [View.read_writes_full]; exact congrArg (fun z _ => z) (if_pos (c := doubtful x w s0 s2 s4) hd).symm
    · rename_i hd; rw [View.read_writes_full]; exact congrArg (fun z _ => z) (if_neg (c := doubtful x w s0 s2 s4) hd).symm
  iexists _; isplitr; · ipureintro; exact harg10.read_unread _
  iexact HS4

end Cert.KernelIdeal.Body
end
-- ==== Proof.KernelIdeal.Frame.lean ====
module

public import proofs.«01_k».proof.Proof.KernelIdeal.Run
public import Idealize.ShloMosaic.Lib.Pipeline.FrameSuffix
public import Idealize.ShloMosaic.Lib.Claim

/-! The whole launch: what every grid point leaves, carried through the scratch, and the frame. -/

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where on the grid -/

theorem atFirst_iff : ∀ t : Fin cfg0.N, atFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    simp only [atFirst, e0]
    word_cmp
   : ∀ t : Fin grid0.N, atFirst (grid0.coords t) ↔ t.val = 0)

theorem atLast_iff : ∀ t : Fin cfg0.N, k0_cond3 (grid0.coords t) = 1#1 ↔ t.val = 7 :=
  (fun t => by
    have ht : t.val < 8 := Nat.lt_of_lt_of_eq t.isLt N_0
    have e0 : (grid0.coords t 0).val = t.val / 1 % 8 := Pipeline.Grid.coords_val t 0 (by decide) rfl
    simp only [k0_cond3, e0]
    word_cmp
   : ∀ t : Fin grid0.N, k0_cond3 (grid0.coords t) = 1#1 ↔ t.val = 7)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, k0_cond3 (grid0.coords t) = 1#1 → cfg0.idle 4 (grid0.coords t) = false := by decide +kernel
theorem idle4 : ∀ t : Fin cfg0.N, ¬ k0_cond3 (grid0.coords t) = 1#1 → cfg0.idle 4 (grid0.coords t) = true := by decide +kernel
theorem kept4 : ∀ t : Fin cfg0.N, ¬ k0_cond3 (grid0.coords t) = 1#1 → (cfg0.win 4).flush t = false := by decide +kernel

/-! ## The buffers of a point -/

abbrev g0 (t : Fin cfg0.N) : Memref sig .tc .vmem S512x256 .f32 := win0_0.stage (cfg0.slots t 0)
abbrev g1 (t : Fin cfg0.N) : Memref sig .tc .vmem S256x4096 .f32 := win0_1.stage (cfg0.slots t 1)
abbrev g2 (t : Fin cfg0.N) : Memref sig .tc .vmem S512x1 .i32 := win0_2.stage (cfg0.slots t 2)
abbrev g3 (t : Fin cfg0.N) : Memref sig .tc .vmem S512x2 .f32 := win0_3.stage (cfg0.slots t 3)
abbrev g4 (t : Fin cfg0.N) : Memref sig .tc .vmem S1x1 .f32 := win0_4.stage (cfg0.slots t 4)
abbrev r0 : Memref sig .tc .vmem S1x4096 .f32 := Memref.whole cc0_scratch0
abbrev r1 : Memref sig .tc .vmem S1x4096 .f32 := Memref.whole cc0_scratch1
abbrev r2 : Memref sig .tc .vmem S1x4096 .f32 := Memref.whole cc0_scratch2
abbrev r3 : Memref sig .tc .smem S1x1 .f32 := Memref.whole cc0_scratch3
abbrev r4 : Memref sig .tc .smem S2x1 .f32 := Memref.whole cc0_scratch4

/-- The launch's own buffers before the first point, one by one. -/
theorem start_eq (c : Dev nD) :
    (Pipeline.ΦA spec0 c : sProp 𝕄)
      = iprop(((∃ d, owns (c : Thread nD τ) r0 fullShare d) ∗ (∃ d, owns (c : Thread nD τ) r1 fullShare d) ∗ (∃ d, owns (c : Thread nD τ) r2 fullShare d)
          ∗ (∃ d, owns (c : Thread nD τ) r3 fullShare d) ∗ (∃ d, owns (c : Thread nD τ) r4 fullShare d)) ∗ (∃ r, prngReg c r)) := by
  unfold Pipeline.ΦA; rw [scopedRest0_eq]; simp only [r0, r1, r2, r3, r4, owns_whole]; try rfl

variable (m : (ℓ : Loc nD τ sig) → Buf (Elt F) ℓ) (ρ : Dev nD → PrngReg)

/-! ## What the points leave -/

/-- The rows of point `t`. -/
abbrev rows (c : Dev nD) (t : Fin cfg0.N) : Vec F S512x256 .f32 := iblk m c 0 t
/-- The weights. -/
abbrev weights (c : Dev nD) : Vec F S256x4096 .f32 := iblk m c 1 ⟨0, by rw [show cfg0.N = 8 from N_0]; decide⟩

theorem weights_eq (c : Dev nD) (t : Fin cfg0.N) : iblk m c 1 t = weights m c := rfl

/-- The columns point `t` writes. -/
def idxAt (c : Dev nD) (t : Fin cfg0.N) : IVec S512x1 32 :=
  outIdx (rows m c t) (weights m c) (k0_pay16 (weights m c)) (k0_pay17 (weights m c)) k0_pay18 (bounds (weights m c))
/-- The places point `t` writes. -/
def locAt (c : Dev nD) (t : Fin cfg0.N) : FVec F S512x2 .f32 :=
  outLoc (rows m c t) (weights m c) (k0_pay16 (weights m c)) (k0_pay17 (weights m c)) k0_pay18 (bounds (weights m c))
/-- One point's step of the total. -/
def step (c : Dev nD) (t : Fin cfg0.N) (a : F .f32) : F .f32 :=
  outAcc (rows m c t) (weights m c) (k0_pay16 (weights m c)) (k0_pay17 (weights m c)) k0_pay18 (bounds (weights m c)) a
/-- The total after point `n`. -/
def total (c : Dev nD) : (n : ℕ) → n < cfg0.N → F .f32
  | 0, h => step m c ⟨0, h⟩ (FloatOps.ofBits .f32 0x00000000#32)
  | n + 1, h => step m c ⟨n + 1, h⟩ (total c n (Nat.lt_of_succ_lt h))

theorem total_first (c : Dev nD) (t : Fin cfg0.N) (h : t.val = 0) :
    total m c t.val t.isLt = step m c t (FloatOps.ofBits .f32 0x00000000#32) := by
  obtain ⟨n, hn⟩ := t; cases n with
  | zero => rfl
  | succ n => exact absurd h (Nat.succ_ne_zero n)

theorem total_later (c : Dev nD) (t : Fin cfg0.N) (h : t.val ≠ 0) :
    total m c t.val t.isLt = step m c t (total m c (t.val - 1) (by omega)) := by
  obtain ⟨n, hn⟩ := t; cases n with
  | zero => exact absurd rfl h
  | succ n => rfl

/-- The scratch after point `n`. -/
def after (c : Dev nD) (n : ℕ) (hn : n < cfg0.N) : sProp 𝕄 :=
  iprop((owns (c : Thread nD τ) r0 fullShare (k0_pay16 (weights m c)) ∗ owns (c : Thread nD τ) r1 fullShare (k0_pay17 (weights m c))
    ∗ owns (c : Thread nD τ) r2 fullShare k0_pay18 ∗ owns (c : Thread nD τ) r3 fullShare (fun _ => total m c n hn)
    ∗ owns (c : Thread nD τ) r4 fullShare (bounds (weights m c))) ∗ (∃ r, prngReg c r))

/-- The scratch before point `n`. -/
def held (c : Dev nD) : (n : ℕ) → n ≤ cfg0.N → sProp 𝕄
  | 0, _ => Pipeline.ΦA spec0 c
  | n + 1, hn => after m c n hn

theorem held_first (c : Dev nD) (n : ℕ) (h : n ≤ cfg0.N) (hz : n = 0) : held m c n h = Pipeline.ΦA spec0 c := by
  subst hz; rfl

theorem held_later (c : Dev nD) (n : ℕ) (h : n ≤ cfg0.N) (hz : n ≠ 0) : held m c n h = after m c (n - 1) (by omega) := by
  cases n with
  | zero => exact absurd rfl hz
  | succ n => rfl

/-- The launch's data: the arrays as found, and what each point leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => idxAt m c t
    | ⟨3, _⟩ => locAt m c t
    | ⟨4, _⟩ => k0_pay5 (total m c t.val t.isLt)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = idxAt m c t := by dsimp only [dats]
theorem after3 (c : Dev nD) (t : Fin cfg0.N) : (dats m 0 c).after 3 t = locAt m c t := by dsimp only [dats]
theorem after4 (c : Dev nD) (t : Fin cfg0.N) : (dats m 0 c).after 4 t = k0_pay5 (total m c t.val t.isLt) := by dsimp only [dats]

theorem before0 (c : Dev nD) (t : Fin cfg0.N) (d) : (dats m 0 c).before 0 t d = rows m c t :=
  before0_0_of m (dats m 0 c) (A_eq m c 0) (after0 m c) t d
theorem before1 (c : Dev nD) (t : Fin cfg0.N) (d) : (dats m 0 c).before 1 t d = weights m c :=
  (before0_1_of m (dats m 0 c) (A_eq m c 1) (after1 m c) t d).trans (weights_eq m c t)

theorem held_castSucc (c : Dev nD) (t : Fin cfg0.N) :
    (dats m 0 c).Φ t.castSucc = held m c t.val (Nat.le_of_lt t.isLt) := by
  dsimp only [dats]; exact Pipeline.Dat.Φ_castSucc (held m c) t

theorem left0 (c : Dev nD) (t : Fin cfg0.N) : (dats m 0 c).leavesExact 0 t = owns (c : Thread nD τ) (g0 t) fullShare (rows m c t) := by
  unfold Dat.leavesExact; rw [live0 t, after0]
theorem left1 (c : Dev nD) (t : Fin cfg0.N) : (dats m 0 c).leavesExact 1 t = owns (c : Thread nD τ) (g1 t) fullShare (weights m c) := by
  unfold Dat.leavesExact; rw [live1 t, after1, weights_eq]
theorem left2 (c : Dev nD) (t : Fin cfg0.N) : (dats m 0 c).leavesExact 2 t = owns (c : Thread nD τ) (g2 t) fullShare (idxAt m c t) := by
  unfold Dat.leavesExact; rw [live2 t, after2]
theorem left3 (c : Dev nD) (t : Fin cfg0.N) : (dats m 0 c).leavesExact 3 t = owns (c : Thread nD τ) (g3 t) fullShare (locAt m c t) := by
  unfold Dat.leavesExact; rw [live3 t, after3]

/-- What the body is called with at point `t`, -/
def given (c : Dev nD) (t : Fin cfg0.N) : sProp 𝕄 :=
  iprop((dats m 0 c).Φ t.castSucc ∗ (dats m 0 c).owesAt () t.castSucc
    ∗ (∃ d, owns (c : Thread nD τ) (g0 t) fullShare ((dats m 0 c).before 0 t d))
    ∗ (∃ d, owns (c : Thread nD τ) (g1 t) fullShare ((dats m 0 c).before 1 t d))
    ∗ (∃ d, owns (c : Thread nD τ) (g2 t) fullShare ((dats m 0 c).before 2 t d))
    ∗ (∃ d, owns (c : Thread nD τ) (g3 t) fullShare ((dats m 0 c).before 3 t d))
    ∗ (∃ d, owns (c : Thread nD τ) (g4 t) fullShare ((dats m 0 c).before 4 t d)))

/-- and what it returns. -/
def returned (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The last window: the total at the last point, whatever was there before it. -/
theorem left4 (c : Dev nD) (t : Fin cfg0.N) (d) :
    owns (c : Thread nD τ) (g4 t) fullShare (if k0_cond3 (grid0.coords t) = 1#1 then k0_pay5 (total m c t.val t.isLt) else (dats m 0 c).before 4 t d)
      ⊢ (dats m 0 c).leavesExact 4 t := by
  by_cases h : k0_cond3 (grid0.coords t) = 1#1
  · rw [if_pos h]
    unfold Dat.leavesExact; rw [live4 t h, after4]
  · rw [if_neg h, Dat.leavesExact_idle (dats m 0 c) 4 t (idle4 t h) (kept4 t h)]
    iintro H; iexists _; iexact H

/-- A point's results are what the launch's data say. -/
theorem hand_back (c : Dev nD) (t : Fin cfg0.N) (a : F .f32) (d) (ha : total m c t.val t.isLt = step m c t a) :
    iprop((∃ r, prngReg c r) ∗ (dats m 0 c).owesAt () t.castSucc
        ∗ leaves c (grid0.coords t) (g0 t) (g1 t) (g2 t) (g3 t) (g4 t) r0 r1 r2 r3 r4 (rows m c t) (weights m c) (k0_pay16 (weights m c)) (k0_pay17 (weights m c))
            k0_pay18 (bounds (weights m c)) a ((dats m 0 c).before 4 t d))
      ⊢ returned m c t := by
  have hl := left4 m c t d
  unfold returned leaves
  rw [left0, left1, left2, left3]
  rw [show (dats m 0 c).owesAt () t.succ = (dats m 0 c).owesAt () t.castSucc from rfl]
  rw [show (dats m 0 c).Φ t.succ = after m c t.val t.isLt from rfl]
  unfold after idxAt locAt
  rw [ha] at hl ⊢
  unfold step at hl ⊢
  iintro ⟨Hg, Ho, H0, H1, H2, H3, H4, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  iapply hl
  iexact H4

set_option maxHeartbeats 3200000 in
/-- The body at any point. -/
theorem sound_body (c : Dev nD) (t : Fin cfg0.N) :
    given m c t ⊢ wp frame (wpE (defs₀ (F := F)) Variants.none c none) Set.univ (bodyAt0 t) (fun _ => returned m c t) := by
  unfold given bodyAt0
  simp only [before0, before1]
  by_cases hz : t.val = 0
  · rw [held_castSucc m c t, held_first m c _ _ hz, start_eq]
    iintro ⟨⟨⟨HS0, HS1, HS2, HS3, HS4⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ _ _ _ _ _ _ _ _ (rows m c t) (weights m c) _ Set.univ _ ((atFirst_iff t).mpr hz))
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    isplitl [HS2]; · iexact HS2
    isplitl [HS3]; · iexact HS3
    isplitl [HS4]; · iexact HS4
    iintro H
    iapply (hand_back m c t _ d4 (total_first m c t hz))
    isplitl [Hg]; · iexact Hg
    isplitl [Ho]; · iexact Ho
    iexact H
  · rw [held_castSucc m c t, held_later m c _ _ hz]
    unfold after
    iintro ⟨⟨⟨HS0, HS1, HS2, HS3, HS4⟩, Hg⟩, Ho, ⟨%d0, H0⟩, ⟨%d1, H1⟩, ⟨%d2, H2⟩, ⟨%d3, H3⟩, ⟨%d4, H4⟩⟩
    iapply (run_later c (grid0.coords t) _ _ _ _ _ _ _ _ _ _ _ _ _ _ _ _ _ _ _ _ (rows m c t) (weights m c) _ _ _ _ _ _ Set.univ _ (fun h => hz ((atFirst_iff t).mp h)))
    isplitl [H0]; · iexact H0
    isplitl [H1]; · iexact H1
    isplitl [H2]; · iexists _; iexact H2
    isplitl [H3]; · iexists _; iexact H3
    isplitl [H4]; · iexact H4
    isplitl [HS0]; · iexact HS0
    isplitl [HS1]; · iexact HS1
    isplitl [HS2]; · iexact HS2
    isplitl [HS3]; · iexact HS3
    isplitl [HS4]; · iexact HS4
    iintro H
    iapply (hand_back m c t _ d4 (total_later m c t hz))
    isplitl [Hg]; · iexact Hg
    isplitl [Ho]; · iexact Ho
    iexact H

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound_body m c t) rfl .rfl fun _ => .rfl

theorem hin (c : Dev nD) : Pipeline.ΦA spec0 c ⊢ (dats m 0 c).Φ 0 := by
  rw [show (dats m 0 c).Φ 0 = held m c 0 (Nat.zero_le _) from rfl, held_first m c 0 _ rfl]
  try exact Idealize.SL.BI.Entails.refl _

theorem hout (c : Dev nD) : (dats m 0 c).Φ (Fin.last cfg0.N) ⊢ Pipeline.ΦA spec0 c := by
  have hN : (Fin.last cfg0.N).val ≠ 0 := by rw [Fin.val_last]; have : cfg0.N = 8 := N_0; omega
  rw [show (dats m 0 c).Φ (Fin.last cfg0.N) = held m c (Fin.last cfg0.N).val (Nat.le_of_lt_succ (Fin.last cfg0.N).isLt) from rfl, held_later m c _ _ hN, start_eq]
  unfold after
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

set_option backward.isDefEq.respectTransparency.types false in
set_option maxHeartbeats 800000 in
/-- Every execution ends, with every buffer as the launch's data say and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.KernelIdeal.Body
end
-- ==== Proof.Value.Near.lean ====
module

public import Mathlib.Analysis.SpecialFunctions.Pow.Real
public import Mathlib.Analysis.Real.Sqrt
public import Mathlib.Algebra.Order.BigOperators.Ring.Finset
public import Mathlib.Tactic.Linarith
public import Mathlib.Tactic.Positivity
public import Idealize.ShloMosaic.Lib.Pointwise

/-! The arithmetic of one row over the reals: the squared distances as the reference and as the kernel expand
    them, which column is the first nearest, and how far apart the two least distances can be. -/

@[expose] public section

noncomputable section

namespace Cert.Near

open Finset

/-- Twice the reference's `eps`, as the number the programs hold. -/
def e : ℝ := 8796093 / 2 ^ 42
/-- The reference's `D * eps * eps`. -/
def c : ℝ := 9223372 / 2 ^ 55
/-- The tolerance on the mean. -/
def tol : ℝ := 10995116 / 2 ^ 39
/-- The kernel's factor of the magnitudes. -/
def mA : ℝ := 13194140 / 2 ^ 43
/-- The kernel's factor of the sums. -/
def mB : ℝ := 13194140 / 2 ^ 41

variable (x : Fin 256 → ℝ) (w : Fin 256 → Fin 4096 → ℝ)

def norm2 : ℝ := ∑ d, x d * x d
def total : ℝ := ∑ d, x d
def col2 (k : Fin 4096) : ℝ := ∑ d, w d k * w d k
def colsum (k : Fin 4096) : ℝ := ∑ d, w d k
def colabs (k : Fin 4096) : ℝ := |colsum w k|
/-- The part of the kernel's squared distance that tells the columns apart. -/
def part (k : Fin 4096) : ℝ := col2 w k + ∑ d, (-2 * x d) * w d k
/-- The kernel's squared distance. -/
def near (k : Fin 4096) : ℝ := norm2 x + col2 w k + (∑ d, (-2 * x d) * w d k) + e * (total x - colsum w k)
/-- The reference's squared distance. -/
def far (k : Fin 4096) : ℝ := norm2 x + col2 w k - 2 * (∑ d, x d * w d k) + e * (total x - colsum w k) + c
/-- The reference's distance. -/
def dist (k : Fin 4096) : ℝ := √(max (far x w k) 0)

theorem neg_two (k : Fin 4096) : ∑ d, (-2 * x d) * w d k = -(2 * ∑ d, x d * w d k) := by
  rw [Finset.mul_sum, ← Finset.sum_neg_distrib]
  exact Finset.sum_congr rfl fun d _ => by ring

theorem far_eq (k : Fin 4096) : far x w k = near x w k + c := by
  unfold far near; rw [neg_two]; ring

theorem near_eq (k : Fin 4096) : near x w k = norm2 x + part x w k + e * (total x - colsum w k) := by
  unfold near part; ring

theorem total_sub (k : Fin 4096) : total x - colsum w k = ∑ d, (x d - w d k) := by
  unfold total colsum; rw [Finset.sum_sub_distrib]

theorem norm2_part (k : Fin 4096) : norm2 x + part x w k = ∑ d, (x d - w d k) ^ 2 := by
  unfold norm2 part col2
  rw [← Finset.sum_add_distrib, ← Finset.sum_add_distrib]
  exact Finset.sum_congr rfl fun d _ => by ring

theorem far_nonneg (k : Fin 4096) : 0 ≤ far x w k := by
  have h : far x w k = (∑ d, (x d - w d k + e / 2) ^ 2) + (c - 64 * e ^ 2) := by
    rw [far_eq, near_eq, norm2_part, total_sub, Finset.mul_sum]
    have : ∀ d, (x d - w d k + e / 2) ^ 2 = (x d - w d k) ^ 2 + e * (x d - w d k) + e ^ 2 / 4 := fun d => by ring
    simp only [this, Finset.sum_add_distrib, Finset.sum_const, Finset.card_univ, Fintype.card_fin, nsmul_eq_mul]
    push_cast; ring
  rw [h]
  have h1 : (0 : ℝ) ≤ ∑ d, (x d - w d k + e / 2) ^ 2 := Finset.sum_nonneg fun d _ => sq_nonneg _
  have h2 : (0 : ℝ) ≤ c - 64 * e ^ 2 := by unfold c e; norm_num
  linarith

/-! ## Least and greatest over the columns -/

def low (f : Fin 4096 → ℝ) : ℝ := univ.inf' ⟨0, mem_univ _⟩ f
def high (f : Fin 4096 → ℝ) : ℝ := univ.sup' ⟨0, mem_univ _⟩ f

variable {f g : Fin 4096 → ℝ}

theorem low_le (f : Fin 4096 → ℝ) (k : Fin 4096) : low f ≤ f k := Finset.inf'_le _ (mem_univ _)
theorem le_high (f : Fin 4096 → ℝ) (k : Fin 4096) : f k ≤ high f := Finset.le_sup' _ (mem_univ _)
theorem exists_low (f : Fin 4096 → ℝ) : ∃ k, low f = f k := by
  obtain ⟨k, _, h⟩ := Finset.exists_mem_eq_inf' (⟨0, mem_univ _⟩ : (univ : Finset (Fin 4096)).Nonempty) f
  exact ⟨k, h⟩
theorem exists_high (f : Fin 4096 → ℝ) : ∃ k, high f = f k := by
  obtain ⟨k, _, h⟩ := Finset.exists_mem_eq_sup' (⟨0, mem_univ _⟩ : (univ : Finset (Fin 4096)).Nonempty) f
  exact ⟨k, h⟩
theorem low_eq {k : Fin 4096} (h : ∀ j, f k ≤ f j) : low f = f k := by
  obtain ⟨j, hj⟩ := exists_low f
  exact le_antisymm (low_le f k) (hj ▸ h j)

/-- `k` is the first column at which `f` is least. -/
def First (f : Fin 4096 → ℝ) (k : Fin 4096) : Prop := (∀ j, f k ≤ f j) ∧ ∀ j, j < k → f k < f j

theorem First.unique {k l : Fin 4096} (hk : First f k) (hl : First f l) : k = l := by
  rcases lt_trichotomy k l with h | h | h
  · exact absurd (hl.2 k h) (not_lt.2 (hk.1 l))
  · exact h
  · exact absurd (hk.2 l h) (not_lt.2 (hl.1 k))

theorem exists_first (f : Fin 4096 → ℝ) : ∃ k, First f k := by
  have hne : (univ.filter fun k => f k = low f).Nonempty := by
    obtain ⟨k, h⟩ := exists_low f
    exact ⟨k, by simp [h]⟩
  refine ⟨(univ.filter fun k => f k = low f).min' hne, ?_, ?_⟩
  · intro j
    have := Finset.min'_mem _ hne
    rw [Finset.mem_filter] at this
    rw [this.2]; exact low_le f j
  · intro j hj
    have := Finset.min'_mem _ hne
    rw [Finset.mem_filter] at this
    rw [this.2]
    refine lt_of_le_of_ne (low_le f j) fun h => ?_
    exact absurd (Finset.min'_le _ j (by simp [h])) (not_le.2 hj)

theorem first_of_lt {k : Fin 4096} (h : ∀ j, j ≠ k → f k < f j) : First f k :=
  ⟨fun j => by rcases eq_or_ne j k with rfl | hj; exacts [le_rfl, (h j hj).le], fun j hj => h j hj.ne⟩

theorem First.dist {k : Fin 4096} (h : First (far x w) k) : First (dist x w) k := by
  unfold Near.dist
  refine ⟨fun j => Real.sqrt_le_sqrt (max_le_max (h.1 j) le_rfl), fun j hj => ?_⟩
  beta_reduce
  rw [max_eq_left (far_nonneg x w k), max_eq_left (far_nonneg x w j)]
  exact Real.sqrt_lt_sqrt (far_nonneg x w k) (h.2 j hj)

theorem low_dist : low (dist x w) = √(low (far x w)) := by
  obtain ⟨k, hk⟩ := exists_first (far x w)
  rw [low_eq (hk.dist).1, low_eq hk.1]
  unfold Near.dist
  rw [max_eq_left (far_nonneg x w k)]

theorem low_far_nonneg : 0 ≤ low (far x w) := by
  obtain ⟨k, h⟩ := exists_low (far x w)
  rw [h]; exact far_nonneg x w k

theorem low_near : low (near x w) = low (far x w) - c := by
  obtain ⟨k, h⟩ := exists_low (far x w)
  have : ∀ j, near x w k ≤ near x w j := fun j => by
    have := low_le (far x w) j
    rw [h, far_eq, far_eq] at this; linarith
  rw [low_eq this, h, far_eq]; ring

/-! ## The candidates -/

/-- How far above the least a candidate may lie. -/
def limit : ℝ :=
  low (part x w) + (mA * (norm2 x + high (col2 w) + 2 * √(norm2 x) * √(high (col2 w)))
    + mB * (|total x| + high (colabs w)))
/-- A candidate's number, 0 for the others. -/
def mark (k : Fin 4096) : ℝ := if part x w k ≤ limit x w then (k.val : ℝ) + 1 else 0

theorem norm2_nonneg : 0 ≤ norm2 x := Finset.sum_nonneg fun d _ => mul_self_nonneg _
theorem high_col2_nonneg : 0 ≤ high (col2 w) :=
  (Finset.sum_nonneg fun d _ => mul_self_nonneg (w d 0)).trans (le_high (col2 w) 0)

theorem limit_ge (i j : Fin 4096) : low (part x w) + e * (colsum w j - colsum w i) ≤ limit x w := by
  have h1 := norm2_nonneg x
  have h2 := high_col2_nonneg w
  have h3 : 0 ≤ 2 * √(norm2 x) * √(high (col2 w)) :=
    mul_nonneg (mul_nonneg zero_le_two (Real.sqrt_nonneg _)) (Real.sqrt_nonneg _)
  have h4 : |colsum w i| ≤ high (colabs w) := le_high (colabs w) i
  have h5 : |colsum w j| ≤ high (colabs w) := le_high (colabs w) j
  have h6 := abs_nonneg (total x)
  have h7 : colsum w j - colsum w i ≤ 2 * high (colabs w) := by
    have := le_abs_self (colsum w j); have := neg_abs_le (colsum w i); linarith
  have h8 : (0 : ℝ) ≤ high (colabs w) := (abs_nonneg _).trans h4
  have h9 : e * (colsum w j - colsum w i) ≤ e * (2 * high (colabs w)) :=
    mul_le_mul_of_nonneg_left h7 (by unfold e; norm_num)
  have h10 : e * (2 * high (colabs w)) ≤ mB * high (colabs w) := by
    have : e * 2 ≤ mB := by unfold e mB; norm_num
    nlinarith
  have h11 : 0 ≤ mA * (norm2 x + high (col2 w) + 2 * √(norm2 x) * √(high (col2 w))) :=
    mul_nonneg (by unfold mA; norm_num) (by linarith)
  have h12 : 0 ≤ mB * |total x| := mul_nonneg (by unfold mB; norm_num) h6
  unfold limit
  rw [mul_add mB]
  linarith

theorem mark_nonneg (k : Fin 4096) : 0 ≤ mark x w k := by
  unfold mark; split_ifs <;> positivity

theorem one_le_mark {k : Fin 4096} (h : part x w k ≤ limit x w) : 1 ≤ mark x w k := by
  unfold mark; rw [if_pos h]; have : (0 : ℝ) ≤ (k.val : ℝ) := by positivity
  linarith

/-- With one candidate only, it is the only nearest column, and the sum of the numbers is its own. -/
theorem quick (h : ∑ k, mark x w k - high (mark x w) ≤ 1 / 2) :
    ∃ k, ∑ j, mark x w j = (k.val : ℝ) + 1 ∧ First (far x w) k ∧ low (part x w) = part x w k := by
  obtain ⟨k, hk⟩ := exists_low (part x w)
  have hself : ∀ i : Fin 4096, part x w i = low (part x w) → part x w i ≤ limit x w := fun i hi => by
    have := limit_ge x w i i
    rw [hi]; linarith
  have hck := hself k hk.symm
  obtain ⟨t, ht⟩ := exists_high (mark x w)
  have hone : ∀ j, j ≠ t → mark x w j = 0 := by
    intro j hj
    by_contra hne
    have h1 : 1 ≤ mark x w j := one_le_mark x w (by
      by_contra hc; exact hne (by unfold mark; rw [if_neg hc]))
    have h2 : mark x w t + mark x w j ≤ ∑ i, mark x w i := by
      have := Finset.sum_le_sum_of_subset_of_nonneg (s := {t, j}) (t := univ) (f := mark x w) (Finset.subset_univ _)
        (fun i _ _ => mark_nonneg x w i)
      rwa [Finset.sum_pair hj.symm] at this
    rw [ht] at h; linarith
  have hkt : k = t := by
    by_contra hne
    have := one_le_mark x w hck
    rw [hone k hne] at this; linarith
  subst hkt
  refine ⟨k, ?_, first_of_lt fun j hj => ?_, hk⟩
  · rw [Finset.sum_eq_single k (fun j _ hj => hone j hj) (by simp)]
    unfold mark; rw [if_pos hck]
  · have h1 : limit x w < part x w j := by
      by_contra hc
      have := one_le_mark x w (not_lt.1 hc)
      rw [hone j hj] at this; linarith
    have h2 := limit_ge x w k j
    rw [far_eq, far_eq, near_eq, near_eq]
    have h3 : e * (total x - colsum w k) - e * (total x - colsum w j) = e * (colsum w j - colsum w k) := by ring
    rw [hk] at h2
    linarith

/-- The least of the numbers of the columns within the bound, less one, is the first nearest column. -/
theorem slow (hc : c ≤ low (far x w)) :
    ∃ k, low (fun j => if near x w j ≤ max (low (near x w)) 0 then (j.val : ℝ) + 1 else 4097) = (k.val : ℝ) + 1
      ∧ First (far x w) k := by
  obtain ⟨k, hk⟩ := exists_first (far x w)
  refine ⟨k, ?_, hk⟩
  have hb : max (low (near x w)) 0 = low (near x w) := max_eq_left (by rw [low_near]; linarith)
  have hl : low (near x w) = near x w k := by rw [low_near, low_eq hk.1, far_eq]; ring
  rw [hb, hl]
  have hv : (if near x w k ≤ near x w k then (k.val : ℝ) + 1 else 4097) = (k.val : ℝ) + 1 := if_pos le_rfl
  rw [← hv]
  refine low_eq (f := fun j => if near x w j ≤ near x w k then (j.val : ℝ) + 1 else 4097) (k := k) fun j => ?_
  simp only [le_refl, if_true]
  split_ifs with hj
  · have : k ≤ j := by
      by_contra hlt
      have := hk.2 j (not_le.1 hlt)
      rw [far_eq, far_eq] at this; linarith
    have : (k.val : ℝ) ≤ (j.val : ℝ) := by exact_mod_cast this
    linarith
  · have : (k.val : ℝ) < 4096 := by exact_mod_cast k.isLt
    linarith

/-! ## How far the least distances are apart -/

theorem tol_nonneg : 0 ≤ tol := by unfold tol; norm_num
theorem c_le : c ≤ tol ^ 2 := by unfold c tol; norm_num

theorem close_slow : |√(max (low (near x w)) 0) - low (dist x w)| ≤ tol := by
  rw [low_dist, low_near]
  have hM := low_far_nonneg x w
  generalize low (far x w) = M at hM
  have hc : 0 ≤ c := by unfold c; norm_num
  have ht := tol_nonneg
  have h1 : √(max (M - c) 0) ≤ √M := Real.sqrt_le_sqrt (max_le (by linarith) hM)
  have h2 : √M ≤ √(max (M - c) 0) + tol := by
    have hq := Real.sqrt_nonneg (max (M - c) 0)
    have hs := Real.sq_sqrt (le_max_right (M - c) 0)
    refine Real.sqrt_le_iff.2 ⟨by linarith, ?_⟩
    have := c_le
    have := le_max_left (M - c) 0
    nlinarith [mul_nonneg hq ht]
  rw [abs_le]; constructor <;> linarith

theorem close_quick {k : Fin 4096} (hk : First (far x w) k) (hl : low (part x w) = part x w k) :
    |√(max (low (part x w) + norm2 x) 0) - low (dist x w)| ≤ tol := by
  rw [low_dist, low_eq hk.1, hl, add_comm (part x w k), norm2_part]
  have hS : (0 : ℝ) ≤ ∑ d, (x d - w d k) ^ 2 := Finset.sum_nonneg fun d _ => sq_nonneg _
  rw [max_eq_left hS]
  have hM := far_nonneg x w k
  have hfar : far x w k = ∑ d, (x d - w d k) ^ 2 + e * (∑ d, (x d - w d k)) + c := by
    rw [far_eq, near_eq, norm2_part, total_sub]
  have hcs : (∑ d, (x d - w d k)) ^ 2 ≤ 256 * ∑ d, (x d - w d k) ^ 2 := by
    have := Finset.sum_mul_sq_le_sq_mul_sq (univ : Finset (Fin 256)) (fun _ => (1 : ℝ)) (fun d => x d - w d k)
    simpa using this
  generalize (∑ d, (x d - w d k) ^ 2) = S at *
  generalize (∑ d, (x d - w d k)) = s at *
  have ha := Real.sqrt_nonneg S
  have hsq := Real.sq_sqrt hS
  have hmm := Real.sq_sqrt hM
  have hmn := Real.sqrt_nonneg (far x w k)
  generalize √S = a at *
  have hs : |s| ≤ 16 * a := abs_le_of_sq_le_sq (by nlinarith) (by linarith)
  rw [abs_le] at hs
  have he : e = 8796093 / 2 ^ 42 := rfl
  have hcv : c = 9223372 / 2 ^ 55 := rfl
  have htv : tol = 10995116 / 2 ^ 39 := rfl
  have he0 : 0 < e := by rw [he]; norm_num
  have hup : e * s ≤ e * (16 * a) := mul_le_mul_of_nonneg_left hs.2 he0.le
  have hdn : e * (-(16 * a)) ≤ e * s := mul_le_mul_of_nonneg_left hs.1 he0.le
  rw [abs_le]
  constructor
  · have : √(far x w k) ≤ a + tol := by
      refine Real.sqrt_le_iff.2 ⟨by have := tol_nonneg; linarith, ?_⟩
      rw [hfar, ← hsq]
      have h1 : 16 * e ≤ 2 * tol := by rw [he, htv]; norm_num
      have := c_le
      nlinarith [mul_le_mul_of_nonneg_right h1 ha]
    linarith
  · rcases le_total a tol with h | h
    · linarith
    · have : a - tol ≤ √(far x w k) := by
        refine Real.le_sqrt_of_sq_le ?_
        rw [hfar, ← hsq]
        have h1 : tol ^ 2 - c ≤ (2 * tol - 16 * e) * tol := by rw [he, htv, hcv]; norm_num
        have h2 : (0 : ℝ) ≤ 2 * tol - 16 * e := by rw [he, htv]; norm_num
        have h3 := mul_le_mul_of_nonneg_left h h2
        nlinarith
      linarith

end Cert.Near

end

end
-- ==== Proof.Value.Cast.lean ====
module

public import proofs.«01_k».proof.Proof.Value.Near

/-! Extended reals that are real numbers: the literals, sums, least and greatest entries, roots, comparisons and
    conversions to integers of such values. -/

@[expose] public section

noncomputable section

namespace Cert.Near

open Finset Idealize.ShloMosaic

/-! ## The literals -/

theorem lit_e : Ideal.ofBits .f32 0x360637BD#32 = ((e : ℝ) : EReal) := by
  simp [Ideal.ofBits, Ideal.ieee, e, -EReal.coe_mul, -EReal.coe_neg]; norm_num [zpow_neg, -EReal.coe_mul, -EReal.coe_neg]
theorem lit_c : Ideal.ofBits .f32 0x2F8CBCCC#32 = ((c : ℝ) : EReal) := by
  simp [Ideal.ofBits, Ideal.ieee, c, -EReal.coe_mul, -EReal.coe_neg]; norm_num [zpow_neg, -EReal.coe_mul, -EReal.coe_neg]
theorem lit_tol : Ideal.ofBits .f32 0x37A7C5AC#32 = ((tol : ℝ) : EReal) := by
  simp [Ideal.ofBits, Ideal.ieee, tol, -EReal.coe_mul, -EReal.coe_neg]; norm_num [zpow_neg, -EReal.coe_mul, -EReal.coe_neg]
theorem lit_A : Ideal.ofBits .f32 0x35C9539C#32 = ((mA : ℝ) : EReal) := by
  simp [Ideal.ofBits, Ideal.ieee, mA, -EReal.coe_mul, -EReal.coe_neg]; norm_num [zpow_neg, -EReal.coe_mul, -EReal.coe_neg]
theorem lit_B : Ideal.ofBits .f32 0x36C9539C#32 = ((mB : ℝ) : EReal) := by
  simp [Ideal.ofBits, Ideal.ieee, mB, -EReal.coe_mul, -EReal.coe_neg]; norm_num [zpow_neg, -EReal.coe_mul, -EReal.coe_neg]
theorem lit_two : Ideal.ofBits .f32 0x40000000#32 = ((2 : ℝ) : EReal) := by
  simp [Ideal.ofBits, Ideal.ieee, -EReal.coe_mul, -EReal.coe_neg]; norm_num [zpow_neg, -EReal.coe_mul, -EReal.coe_neg]
theorem lit_neg_two : Ideal.ofBits .f32 0xC0000000#32 = ((-2 : ℝ) : EReal) := by
  simp [Ideal.ofBits, Ideal.ieee, -EReal.coe_mul, -EReal.coe_neg]; norm_num [zpow_neg, -EReal.coe_mul, -EReal.coe_neg]
theorem lit_neg_one : Ideal.ofBits .f32 0xBF800000#32 = ((-1 : ℝ) : EReal) := by
  simp [Ideal.ofBits, Ideal.ieee, -EReal.coe_mul, -EReal.coe_neg]; norm_num [zpow_neg, -EReal.coe_mul, -EReal.coe_neg]
theorem lit_one : Ideal.ofBits .f32 0x3F800000#32 = ((1 : ℝ) : EReal) := by
  simp [Ideal.ofBits, Ideal.ieee, -EReal.coe_mul, -EReal.coe_neg]; norm_num [zpow_neg, -EReal.coe_mul, -EReal.coe_neg]
theorem lit_half : Ideal.ofBits .f32 0x3F000000#32 = ((1 / 2 : ℝ) : EReal) := by
  simp [Ideal.ofBits, Ideal.ieee, -EReal.coe_mul, -EReal.coe_neg]; norm_num [zpow_neg, -EReal.coe_mul, -EReal.coe_neg]
theorem lit_rows : Ideal.ofBits .f32 0x45800000#32 = ((4096 : ℝ) : EReal) := by
  simp [Ideal.ofBits, Ideal.ieee, -EReal.coe_mul, -EReal.coe_neg]; norm_num [zpow_neg, -EReal.coe_mul, -EReal.coe_neg]
theorem lit_past : Ideal.ofBits .f32 0x45800800#32 = ((4097 : ℝ) : EReal) := by
  simp [Ideal.ofBits, Ideal.ieee, -EReal.coe_mul, -EReal.coe_neg]; norm_num [zpow_neg, -EReal.coe_mul, -EReal.coe_neg]
theorem lit_top : Ideal.ofBits .f32 0x7F800000#32 = (⊤ : EReal) := by
  simp [Ideal.ofBits, Ideal.ieee]
theorem lit_bot : Ideal.ofBits .f32 0xFF800000#32 = (⊥ : EReal) := by
  simp [Ideal.ofBits, Ideal.ieee]

/-! ## Sums, least and greatest entries -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem max_coe (a b : ℝ) : max (a : EReal) (b : EReal) = ((max a b : ℝ) : EReal) := by
  rcases le_total a b with h | h
  · rw [max_eq_right h, max_eq_right (by exact_mod_cast h)]
  · rw [max_eq_left h, max_eq_left (by exact_mod_cast h)]
theorem min_coe (a b : ℝ) : min (a : EReal) (b : EReal) = ((min a b : ℝ) : EReal) := by
  rcases le_total a b with h | h
  · rw [min_eq_left h, min_eq_left (by exact_mod_cast h)]
  · rw [min_eq_right h, min_eq_right (by exact_mod_cast h)]
theorem abs_coe (a : ℝ) : max (a : EReal) (-(a : EReal)) = ((|a| : ℝ) : EReal) := by
  rw [← EReal.coe_neg, max_coe]; rfl
theorem sqrt_coe {a : ℝ} (h : 0 ≤ a) : Ideal.sqrt ((a : ℝ) : EReal) = ((√a : ℝ) : EReal) := by
  rw [Ideal.sqrt_coe, if_neg (not_lt.2 h)]
theorem sub_coe (a b : ℝ) : (a : EReal) - (b : EReal) = ((a - b : ℝ) : EReal) := (EReal.coe_sub a b).symm
theorem add_coe (a b : ℝ) : (a : EReal) + (b : EReal) = ((a + b : ℝ) : EReal) := (EReal.coe_add a b).symm
theorem mul_coe (a b : ℝ) : (a : EReal) * (b : EReal) = ((a * b : ℝ) : EReal) := (EReal.coe_mul a b).symm

/-- Column `k` of the first half. -/
def lo (k : Fin 2048) : Fin 4096 := ⟨k.val, by omega⟩
/-- Column `k` of the second half. -/
def hi (k : Fin 2048) : Fin 4096 := ⟨2048 + k.val, by omega⟩

theorem lo_or_hi (k : Fin 4096) : (∃ j, k = lo j) ∨ ∃ j, k = hi j := by
  rcases lt_or_ge k.val 2048 with h | h
  · exact .inl ⟨⟨k.val, h⟩, rfl⟩
  · refine .inr ⟨⟨k.val - 2048, by omega⟩, Fin.ext ?_⟩
    show k.val = 2048 + (k.val - 2048); omega

variable {M : Type} [AddCommMonoid M]

theorem sum_halves (f : Fin 4096 → M) : ∑ k, f (lo k) + ∑ k, f (hi k) = ∑ k, f k :=
  (Fin.sum_univ_add (a := 2048) (b := 2048) f).symm

theorem fold_min_all (f : Fin 4096 → ℝ) : Finset.fold min (⊤ : EReal) (fun k => (f k : EReal)) univ = ((low f : ℝ) : EReal) := by
  obtain ⟨k, hk⟩ := exists_low f
  refine le_antisymm ?_ ?_
  · rw [Finset.fold_min_le]
    exact .inr ⟨k, mem_univ _, by rw [hk]⟩
  · rw [Finset.le_fold_min]
    exact ⟨le_top, fun j _ => by exact_mod_cast low_le f j⟩

theorem fold_min_halves (f : Fin 4096 → ℝ) :
    min (Finset.fold min (⊤ : EReal) (fun k => (f (lo k) : EReal)) univ) (Finset.fold min (⊤ : EReal) (fun k => (f (hi k) : EReal)) univ)
      = ((low f : ℝ) : EReal) := by
  obtain ⟨k, hk⟩ := exists_low f
  refine le_antisymm ?_ ?_
  · rw [min_le_iff, Finset.fold_min_le, Finset.fold_min_le]
    rcases lo_or_hi k with ⟨j, rfl⟩ | ⟨j, rfl⟩
    · exact .inl (.inr ⟨j, mem_univ _, by rw [hk]⟩)
    · exact .inr (.inr ⟨j, mem_univ _, by rw [hk]⟩)
  · rw [le_min_iff, Finset.le_fold_min, Finset.le_fold_min]
    exact ⟨⟨le_top, fun j _ => by exact_mod_cast low_le f (lo j)⟩, ⟨le_top, fun j _ => by exact_mod_cast low_le f (hi j)⟩⟩

theorem fold_max_halves (f : Fin 4096 → ℝ) :
    max (Finset.fold max (⊥ : EReal) (fun k => (f (lo k) : EReal)) univ) (Finset.fold max (⊥ : EReal) (fun k => (f (hi k) : EReal)) univ)
      = ((high f : ℝ) : EReal) := by
  obtain ⟨k, hk⟩ := exists_high f
  refine le_antisymm ?_ ?_
  · rw [max_le_iff, Finset.fold_max_le, Finset.fold_max_le]
    exact ⟨⟨bot_le, fun j _ => by exact_mod_cast le_high f (lo j)⟩, ⟨bot_le, fun j _ => by exact_mod_cast le_high f (hi j)⟩⟩
  · rw [le_max_iff, Finset.le_fold_max, Finset.le_fold_max]
    rcases lo_or_hi k with ⟨j, rfl⟩ | ⟨j, rfl⟩
    · exact .inl (.inr ⟨j, mem_univ _, by rw [hk]⟩)
    · exact .inr (.inr ⟨j, mem_univ _, by rw [hk]⟩)

/-- The greatest entry, over an index with a further coordinate that does not matter. -/
theorem fold_max_snd (f : Fin 4096 → ℝ) :
    Finset.fold max (⊥ : EReal) (fun p : Fin 1 × Fin 4096 => (f p.2 : EReal)) univ = ((high f : ℝ) : EReal) := by
  obtain ⟨k, hk⟩ := exists_high f
  refine le_antisymm ?_ ?_
  · rw [Finset.fold_max_le]
    exact ⟨bot_le, fun p _ => by exact_mod_cast le_high f p.2⟩
  · rw [Finset.le_fold_max]
    exact .inr ⟨(⟨0, Nat.one_pos⟩, k), mem_univ _, by rw [hk]⟩

/-! ## Comparisons and conversions -/

theorem cmp_ole (a b : EReal) : Ideal.cmp .ole a b = 1#1 ↔ a ≤ b := by
  unfold Ideal.cmp; by_cases h : a ≤ b <;> simp [h]
theorem cmp_ogt (a b : EReal) : Ideal.cmp .ogt a b = 1#1 ↔ b < a := by
  unfold Ideal.cmp; by_cases h : b < a <;> simp [h]
theorem cmp_oge (a b : EReal) : Ideal.cmp .oge a b = 1#1 ↔ b ≤ a := by
  unfold Ideal.cmp; by_cases h : b ≤ a <;> simp [h]
theorem cmp_olt (a b : EReal) : Ideal.cmp .olt a b = 1#1 ↔ a < b := by
  unfold Ideal.cmp; by_cases h : a < b <;> simp [h]
theorem cmp_oeq (a b : EReal) : Ideal.cmp .oeq a b = 1#1 ↔ a = b := by
  unfold Ideal.cmp; by_cases h : a = b <;> simp [h]

theorem fptosi_nat {n : ℕ} (h : n < 4096) : Ideal.fptosi 32 (((n : ℝ) : ℝ) : EReal) = BitVec.ofNat 32 n := by
  unfold Ideal.fptosi
  have : Ideal.toIntClamped (-(2 ^ (32 - 1) : Nat)) ((2 ^ (32 - 1) : Nat) - 1) (((n : ℝ) : ℝ) : EReal) = (n : Int) := by
    show max _ (min _ (if (0 : ℝ) ≤ (n : ℝ) then ⌊(n : ℝ)⌋ else ⌈(n : ℝ)⌉)) = _
    rw [if_pos (Nat.cast_nonneg n), Int.floor_natCast]
    norm_num
    omega
  rw [this]
  exact BitVec.ofInt_natCast 32 n

/-- A number is real exactly when its absolute value is below infinity. -/
theorem real_of_abs {a : EReal} (h : max a (-a) < ⊤) : ∃ r : ℝ, a = (r : EReal) := by
  induction a using EReal.rec with
  | bot => simp at h
  | top => simp at h
  | coe r => exact ⟨r, rfl⟩

end Cert.Near

end

end
-- ==== Proof.Value.Block.lean ====
module

public import proofs.«01_k».proof.Proof.Value.Cast
public import proofs.«01_k».proof.Proof.KernelIdeal.Vals

/-! What the kernel's stages hold, entry by entry, when the block of rows and the weights are real. -/

@[expose] public section

set_option maxRecDepth 16384

noncomputable section

namespace Cert.KernelIdeal.Body

open Cert.KernelIdeal.Gen Cert.Near
open Idealize.ShloMosaic

/-- The block of rows `x` holds the real numbers `X`. -/
abbrev RealRows (x : Vec Ideal S512x256 .f32) (X : Fin 512 → Fin 256 → ℝ) : Prop := ∀ r d, x (ix2 r d) = ((X r d : ℝ) : EReal)
/-- The weights `w` hold the real numbers `W`. -/
abbrev RealCols (w : Vec Ideal S256x4096 .f32) (W : Fin 256 → Fin 4096 → ℝ) : Prop := ∀ d k, w (ix2 d k) = ((W d k : ℝ) : EReal)

variable {x : Vec Ideal S512x256 .f32} {X : Fin 512 → Fin 256 → ℝ} (hx : RealRows x X)
variable {w : Vec Ideal S256x4096 .f32} {W : Fin 256 → Fin 4096 → ℝ} (hw : RealCols w W)

include hx in
theorem norm_at (r : Fin 512) : k0_pay24 x (ix2 r 0) = ((norm2 (X r) : ℝ) : EReal) := by
  pointwise [k0_pay24]
  simp only [hx, mul_coe, sum_coe]; rfl

include hx in
theorem total_at (r : Fin 512) : k0_pay25 x (ix2 r 0) = ((total (X r) : ℝ) : EReal) := by
  pointwise [k0_pay25]
  simp only [hx, sum_coe]; rfl

include hw in
theorem norms_at (k : Fin 4096) : k0_pay14 w (ix2 0 k) = ((col2 W k : ℝ) : EReal) := by
  pointwise [k0_pay14]
  simp only [hw, mul_coe, sum_coe]; rfl

include hw in
theorem sums_at (k : Fin 4096) : k0_pay15 w (ix2 0 k) = ((colsum W k : ℝ) : EReal) := by
  pointwise [k0_pay15]
  simp only [hw, sum_coe]; rfl

theorem first_at (s : Vec Ideal S1x4096 .f32) (k : Fin 2048) : c0 s (ix2 0 k) = s (ix2 0 (lo k)) := by
  pointwise [c0]; rfl
theorem last_at (s : Vec Ideal S1x4096 .f32) (k : Fin 2048) : c1 s (ix2 0 k) = s (ix2 0 (hi k)) := by
  pointwise [c1]; rfl
theorem cols0_at (d : Fin 256) (k : Fin 2048) : w0 w (ix2 d k) = w (ix2 d (lo k)) := by
  pointwise [w0]; rfl
theorem cols1_at (d : Fin 256) (k : Fin 2048) : w1 w (ix2 d k) = w (ix2 d (hi k)) := by
  pointwise [w1]; rfl

theorem pay16_eq : k0_pay16 w = k0_pay14 w := by
  funext j; idx_vars j; pointwise [k0_pay16];
theorem pay17_eq : k0_pay17 w = k0_pay15 w := by
  funext j; idx_vars j; pointwise [k0_pay17];

include hx hw in
theorem prod0_at (r : Fin 512) (k : Fin 2048) :
    k0_pay22 x (w0 w) (ix2 r k) = ((∑ d, (-2 * X r d) * W d (lo k) : ℝ) : EReal) := by
  pointwise [k0_pay22, k0_pay21]
  simp only [cols0_at, hx, hw, lit_neg_two, mul_coe, sum_coe]

include hx hw in
theorem prod1_at (r : Fin 512) (k : Fin 2048) :
    k0_pay23 x (w1 w) (ix2 r k) = ((∑ d, (-2 * X r d) * W d (hi k) : ℝ) : EReal) := by
  pointwise [k0_pay23, k0_pay21]
  simp only [cols1_at, hx, hw, lit_neg_two, mul_coe, sum_coe]

include hx hw in
theorem part0_at (r : Fin 512) (k : Fin 2048) :
    k0_pay26 x (w0 w) (c0 (k0_pay16 w)) (ix2 r k) = ((part (X r) W (lo k) : ℝ) : EReal) := by
  pointwise [k0_pay26]
  rw [prod0_at hx hw, first_at, pay16_eq, norms_at hw, add_coe]; rfl

include hx hw in
theorem part1_at (r : Fin 512) (k : Fin 2048) :
    k0_pay27 x (w1 w) (c1 (k0_pay16 w)) (ix2 r k) = ((part (X r) W (hi k) : ℝ) : EReal) := by
  pointwise [k0_pay27]
  rw [prod1_at hx hw, last_at, pay16_eq, norms_at hw, add_coe]; rfl

include hx hw in
theorem least_at (r : Fin 512) : least x w (k0_pay16 w) (ix2 r 0) = ((low (part (X r) W) : ℝ) : EReal) := by
  pointwise [least, k0_pay28]
  simp only [part0_at hx hw, part1_at hx hw, lit_top]
  exact fold_min_halves _

end Cert.KernelIdeal.Body
end
-- ==== Proof.Value.Fast.lean ====
module

public import proofs.«01_k».proof.Proof.Value.Block

/-! The kernel's quick way to the nearest column, entry by entry: the numbers of the candidates, their sum, and the
    test that no row has two of them. -/

@[expose] public section

set_option maxRecDepth 16384

noncomputable section

namespace Cert.KernelIdeal.Body

open Cert.KernelIdeal.Gen Cert.Near
open Idealize.ShloMosaic

theorem word_succ {n : ℕ} (h : n < 4096) : (IntOp.addi (BitVec.ofNat 32 n) 1#32).toInt = (n : Int) + 1 := by
  have : IntOp.addi (BitVec.ofNat 32 n) 1#32 = BitVec.ofNat 32 (n + 1) := (BitVec.ofNat_add n 1).symm
  rw [this, BitVec.toInt_eq_toNat_of_lt]
  · rw [BitVec.toNat_ofNat, Nat.mod_eq_of_lt (by omega)]; rfl
  · rw [BitVec.toNat_ofNat, Nat.mod_eq_of_lt (by omega)]; omega

/-- The numbers of the columns, from 1 on. -/
abbrev nums : Vec Ideal S1x4096 .f32 := k0_pay18 (F := Ideal)

theorem number_at (k : Fin 4096) : nums (ix2 0 k) = (((k.val : ℝ) + 1 : ℝ) : EReal) := by
  pointwise [nums, k0_pay18]
  show (((IntOp.addi (BitVec.ofNat 32 k.val) 1#32).toInt : ℝ) : EReal) = _
  rw [word_succ k.isLt]; push_cast; rfl

variable {x : Vec Ideal S512x256 .f32} {X : Fin 512 → Fin 256 → ℝ} (hx : RealRows x X)
variable {w : Vec Ideal S256x4096 .f32} {W : Fin 256 → Fin 4096 → ℝ} (hw : RealCols w W)

include hw in
theorem b0_at : b0 (bounds w) = ((high (col2 W) : ℝ) : EReal) := by
  pointwise [b0, bounds, k0_pay19]
  simp only [norms_at hw, lit_bot]
  exact fold_max_snd _

include hw in
theorem magnitude_at (k : Fin 4096) :
    max (k0_pay15 w (ix2 0 k)) (-(k0_pay15 w (ix2 0 k))) = ((colabs W k : ℝ) : EReal) := by
  rw [sums_at hw, abs_coe]; rfl

include hw in
theorem b1_at : b1 (bounds w) = ((high (colabs W) : ℝ) : EReal) := by
  pointwise [b1, bounds, k0_pay20]
  simp only [Ideal.absf_def, magnitude_at hw, lit_bot]
  exact fold_max_snd _

theorem scalar_sqrt (a : Ideal .f32) : Scalar.sqrt a = Ideal.sqrt a := rfl

include hx hw in
theorem limit_at (r : Fin 512) :
    k0_pay32 (k0_pay25 x) (least x w (k0_pay16 w)) (b1 (bounds w)) (k0_pay29 x (b0 (bounds w))) (k0_pay30 x) (k0_pay31 (b0 (bounds w)))
      (ix2 r 0) = ((limit (X r) W : ℝ) : EReal) := by
  pointwise [k0_pay32, k0_pay29, k0_pay30, k0_pay31]
  rw [norm_at hx, total_at hx, least_at hx hw, b0_at hw, b1_at hw, lit_A, lit_B, lit_two, sqrt_coe (norm2_nonneg _),
    scalar_sqrt, sqrt_coe (high_col2_nonneg _), Ideal.absf_def, abs_coe]
  simp only [mul_coe, add_coe]
  rfl

/-- The numbers of the candidates among the first 2048 columns, 0 for the others. -/
abbrev marks0 (x : Vec Ideal S512x256 .f32) (w : Vec Ideal S256x4096 .f32) : FVec Ideal S512x2048 .f32 :=
  k0_pay33 (k0_pay25 x) (k0_pay26 x (w0 w) (c0 (k0_pay16 w))) (least x w (k0_pay16 w)) (b1 (bounds w))
    (k0_pay29 x (b0 (bounds w))) (k0_pay30 x) (k0_pay31 (b0 (bounds w))) (c0 nums)
/-- The same of the last 2048 columns. -/
abbrev marks1 (x : Vec Ideal S512x256 .f32) (w : Vec Ideal S256x4096 .f32) : FVec Ideal S512x2048 .f32 :=
  k0_pay34 (k0_pay25 x) (k0_pay27 x (w1 w) (c1 (k0_pay16 w))) (least x w (k0_pay16 w)) (b1 (bounds w))
    (k0_pay29 x (b0 (bounds w))) (k0_pay30 x) (k0_pay31 (b0 (bounds w))) (c1 nums)

theorem pick_coe (p q a b : ℝ) : (if (p : EReal) ≤ (q : EReal) then (a : EReal) else (b : EReal)) = ((if p ≤ q then a else b : ℝ) : EReal) := by
  by_cases h : p ≤ q
  · rw [if_pos h, if_pos (by exact_mod_cast h)]
  · rw [if_neg h, if_neg (by exact_mod_cast h)]

include hx hw in
theorem mark0_at (r : Fin 512) (k : Fin 2048) : marks0 x w (ix2 r k) = ((mark (X r) W (lo k) : ℝ) : EReal) := by
  pointwise [marks0, k0_pay33]
  rw [limit_at hx hw, part0_at hx hw, first_at, number_at, ← EReal.coe_zero, pick_coe]
  rfl

include hx hw in
theorem mark1_at (r : Fin 512) (k : Fin 2048) : marks1 x w (ix2 r k) = ((mark (X r) W (hi k) : ℝ) : EReal) := by
  pointwise [marks1, k0_pay34]
  rw [limit_at hx hw, part1_at hx hw, last_at, number_at, ← EReal.coe_zero, pick_coe]
  rfl

include hx hw in
theorem sum_at (r : Fin 512) :
    k0_pay35 (k0_pay25 x) (k0_pay26 x (w0 w) (c0 (k0_pay16 w))) (k0_pay27 x (w1 w) (c1 (k0_pay16 w))) (least x w (k0_pay16 w))
      (b1 (bounds w)) (k0_pay29 x (b0 (bounds w))) (k0_pay30 x) (k0_pay31 (b0 (bounds w))) (c0 nums) (c1 nums) (ix2 r 0)
      = ((∑ k, mark (X r) W k : ℝ) : EReal) := by
  pointwise [k0_pay35]
  simp only [mark0_at hx hw, mark1_at hx hw, sum_coe, add_coe]
  rw [sum_halves]

include hx hw in
theorem spread_at (h : ¬ doubtful x w (k0_pay16 w) nums (bounds w)) (r : Fin 512) :
    ∑ k, mark (X r) W k - high (mark (X r) W) ≤ 1 / 2 := by
  have h1 : spread x w (k0_pay16 w) nums (bounds w) ≤ ((1 / 2 : ℝ) : EReal) := by
    by_contra hc
    refine h ?_
    have hb : Ideal.cmp .ogt (spread x w (k0_pay16 w) nums (bounds w)) (Ideal.ofBits .f32 0x3F000000#32) = 1#1 := by
      rw [cmp_ogt, lit_half]; exact not_le.1 hc
    have hg : ∀ b : BitVec 1, b = 1#1 → Scalar.cmpi .ne (Scalar.extui b : BitVec 32) 0#32 = 1#1 := by
      rintro _ rfl; decide
    exact hg _ hb
  revert h1
  pointwise [spread, k0_pay36]
  intro h1
  rw [lit_bot, Finset.fold_max_le] at h1
  have h2 := h1.2 (r, 0) (Finset.mem_univ _)
  simp only [mark0_at hx hw, mark1_at hx hw, sum_at hx hw, fold_max_halves, sub_coe] at h2
  exact_mod_cast h2

include hx hw in
theorem quick_at (r : Fin 512) :
    quickIdx x w (k0_pay16 w) nums (bounds w) (ix2 r 0) = Ideal.fptosi 32 ((∑ k, mark (X r) W k - 1 : ℝ) : EReal) := by
  pointwise [quickIdx, k0_pay37]
  rw [sum_at hx hw, ← EReal.coe_one, sub_coe]; rfl

end Cert.KernelIdeal.Body
end
-- ==== Proof.Value.Slow.lean ====
module

public import proofs.«01_k».proof.Proof.Value.Fast

/-! The kernel's other way, by the squared distances themselves, and the totals it adds up. -/

@[expose] public section

set_option maxRecDepth 16384

noncomputable section

namespace Cert.KernelIdeal.Body

open Cert.KernelIdeal.Gen Cert.Near
open Idealize.ShloMosaic

/-! ## The stages, of any contents -/

/-- A row's least entry among 2048. -/
def rowmin (p : FVec Ideal S512x2048 .f32) : FVec Ideal S512x1 .f32 :=
  shapeCast S512x1 (multiReduction .minimumf [1] S512 p 0x7F800000#32 reduces_S512x2048_S512 (.inl rfl) rfl) shapeCasts_S512_S512x1

theorem rowmin_at (p : FVec Ideal S512x2048 .f32) (r : Fin 512) :
    rowmin p (ix2 r 0) = Finset.fold min (⊤ : EReal) (fun k => p (ix2 r k)) Finset.univ := by
  pointwise [rowmin]
  rw [lit_top]

/-- The numbers of the columns within a bound, 4097 for the others. -/
def pick (p : FVec Ideal S512x2048 .f32) (b : FVec Ideal S512x1 .f32) (s : Vec Ideal S1x2048 .f32) : FVec Ideal S512x2048 .f32 :=
  select (cmpf .ole p (broadcastTo S512x2048 b broadcasts_S512x1_S512x2048))
    (broadcastTo S512x2048 (shapeCast S1x2048 s shapeCasts_S1x2048_S1x2048) broadcasts_S1x2048_S512x2048)
    (broadcast S512x2048 (Scalar.ofBits .f32 0x45800800#32))

theorem pick_at (p : FVec Ideal S512x2048 .f32) (b : FVec Ideal S512x1 .f32) (s : Vec Ideal S1x2048 .f32) (r : Fin 512) (k : Fin 2048) :
    pick p b s (ix2 r k) = if p (ix2 r k) ≤ b (ix2 r 0) then s (ix2 0 k) else ((4097 : ℝ) : EReal) := by
  pointwise [pick]
  rw [lit_past]

theorem pay11_eq (p q : FVec Ideal S512x2048 .f32) (b : FVec Ideal S512x1 .f32) (s t : Vec Ideal S1x2048 .f32) :
    k0_pay11 p q b s t
      = fptosi 32 (subf (minimumf (rowmin (pick p b s)) (rowmin (pick q b t))) (broadcast S512x1 (Scalar.ofBits .f32 0x3F800000#32))) := rfl

/-- The square of the least distance, where its root gives the distance back. -/
def boundOf (R L : FVec Ideal S512x1 .f32) : FVec Ideal S512x1 .f32 :=
  maximumf (select (cmpf .oeq (sqrt (mulf R R)) R) (mulf R R) (select (cmpf .oeq (sqrt (mulf R R)) R) (mulf R R)
    (select (cmpf .oeq (sqrt (mulf R R)) R) (mulf R R) (broadcast S512x1 (Scalar.ofBits .f32 0xBF800000#32))))) L

theorem boundOf_at (R L : FVec Ideal S512x1 .f32) (r : Fin 512) {a : ℝ} (ha : 0 ≤ a) (hR : R (ix2 r 0) = ((√a : ℝ) : EReal))
    (hL : L (ix2 r 0) = ((a : ℝ) : EReal)) : boundOf R L (ix2 r 0) = ((a : ℝ) : EReal) := by
  pointwise [boundOf]
  rw [hR, hL, mul_coe, Real.mul_self_sqrt ha, sqrt_coe ha]
  simp

theorem pay2_at (n t : FVec Ideal S512x1 .f32) (r : Fin 512) : k0_pay2 n t (ix2 r 0) = Ideal.sqrt (max (t (ix2 r 0) + n (ix2 r 0)) 0) := by
  pointwise [k0_pay2]

theorem pay3_at (n t : FVec Ideal S512x1 .f32) (a : Ideal .f32) : k0_pay3 n t a = a + ∑ r : Fin 512, k0_pay2 n t (ix2 r 0) := by
  pointwise [k0_pay3]
  simp only [Fin.sum_univ_one]

theorem pay13_at (p q : FVec Ideal S512x1 .f32) :
    k0_pay13 p q = ((∑ r : Fin 512, q (ix2 r 0) : EReal)) - ∑ r : Fin 512, p (ix2 r 0) := by
  pointwise [k0_pay13]
  simp only [Fin.sum_univ_one]

theorem sqrt_at {s : Shape} (v : FVec Ideal s .f32) (j : s.Idx) : sqrt v j = Ideal.sqrt (v j) := rfl
theorem min_at {s : Shape} (v z : FVec Ideal s .f32) (j : s.Idx) : minimumf v z j = min (v j) (z j) := rfl
theorem max_at {s : Shape} (v z : FVec Ideal s .f32) (j : s.Idx) : maximumf v z j = max (v j) (z j) := rfl
theorem sub_at {s : Shape} (v z : FVec Ideal s .f32) (j : s.Idx) : subf v z j = v j - z j := rfl
theorem fill_at {s : Shape} (a : Ideal .f32) (j : s.Idx) : broadcast s a j = a := rfl
theorem fptosi_at {s : Shape} (v : FVec Ideal s .f32) (j : s.Idx) : fptosi 32 v j = Ideal.fptosi 32 (v j) := rfl
theorem lit_at (b : BitVec 32) : (Scalar.ofBits .f32 b : Ideal .f32) = Ideal.ofBits .f32 b := rfl

/-! ## The stages of the block -/

variable {x : Vec Ideal S512x256 .f32} {X : Fin 512 → Fin 256 → ℝ} (hx : RealRows x X)
variable {w : Vec Ideal S256x4096 .f32} {W : Fin 256 → Fin 4096 → ℝ} (hw : RealCols w W)

include hx hw in
theorem sq0_at (r : Fin 512) (k : Fin 2048) :
    sq0 x w (k0_pay16 w) (k0_pay17 w) (ix2 r k) = ((near (X r) W (lo k) : ℝ) : EReal) := by
  pointwise [sq0, k0_pay6]
  rw [prod0_at hx hw, norm_at hx, total_at hx, first_at, first_at, pay16_eq, pay17_eq, norms_at hw, sums_at hw, lit_e]
  simp only [mul_coe, add_coe, sub_coe]; rfl

include hx hw in
theorem sq1_at (r : Fin 512) (k : Fin 2048) :
    sq1 x w (k0_pay16 w) (k0_pay17 w) (ix2 r k) = ((near (X r) W (hi k) : ℝ) : EReal) := by
  pointwise [sq1, k0_pay7]
  rw [prod1_at hx hw, norm_at hx, total_at hx, last_at, last_at, pay16_eq, pay17_eq, norms_at hw, sums_at hw, lit_e]
  simp only [mul_coe, add_coe, sub_coe]; rfl

/-- The least squared distance, not below zero. -/
def floor0 (X : Fin 512 → Fin 256 → ℝ) (W : Fin 256 → Fin 4096 → ℝ) (r : Fin 512) : ℝ := max (low (near (X r) W)) 0

theorem floor0_nonneg (r : Fin 512) : 0 ≤ floor0 X W r := by
  unfold floor0; exact le_max_right _ _

/-- The stage that takes the least squared distance. -/
def lowest (x : Vec Ideal S512x256 .f32) (w : Vec Ideal S256x4096 .f32) : FVec Ideal S512x1 .f32 :=
  maximumf (minimumf (rowmin (sq0 x w (k0_pay16 w) (k0_pay17 w))) (rowmin (sq1 x w (k0_pay16 w) (k0_pay17 w))))
    (broadcast S512x1 (Scalar.ofBits .f32 0x00000000#32))

include hx hw in
theorem lowest_at (r : Fin 512) : lowest x w (ix2 r 0) = ((floor0 X W r : ℝ) : EReal) := by
  unfold lowest
  rw [max_at, min_at, fill_at, lit_at, Ideal.ofBits_zero, rowmin_at, rowmin_at]
  simp only [sq0_at hx hw, sq1_at hx hw]
  rw [fold_min_halves, ← EReal.coe_zero, max_coe]
  rfl

theorem root_eq : root x w (k0_pay16 w) (k0_pay17 w) = sqrt (lowest x w) := rfl
theorem bound_eq : bound x w (k0_pay16 w) (k0_pay17 w) = boundOf (sqrt (lowest x w)) (lowest x w) := rfl

include hx hw in
theorem root_at (r : Fin 512) : root x w (k0_pay16 w) (k0_pay17 w) (ix2 r 0) = ((√(floor0 X W r) : ℝ) : EReal) := by
  rw [root_eq, sqrt_at, lowest_at hx hw, sqrt_coe (floor0_nonneg r)]

include hx hw in
theorem bound_at (r : Fin 512) : bound x w (k0_pay16 w) (k0_pay17 w) (ix2 r 0) = ((floor0 X W r : ℝ) : EReal) := by
  rw [bound_eq]
  refine boundOf_at _ _ r (floor0_nonneg r) ?_ (lowest_at hx hw r)
  rw [sqrt_at, lowest_at hx hw, sqrt_coe (floor0_nonneg r)]

include hx hw in
theorem slow_at (r : Fin 512) :
    slowIdx x w (k0_pay16 w) (k0_pay17 w) nums (ix2 r 0)
      = Ideal.fptosi 32 ((low (fun j => if near (X r) W j ≤ floor0 X W r then (j.val : ℝ) + 1 else 4097) - 1 : ℝ) : EReal) := by
  unfold slowIdx
  rw [pay11_eq, fptosi_at, sub_at, min_at, fill_at, lit_at, lit_one, rowmin_at, rowmin_at]
  simp only [pick_at, bound_at hx hw, sq0_at hx hw, sq1_at hx hw, first_at, last_at, number_at, pick_coe]
  rw [fold_min_halves (fun j => if near (X r) W j ≤ floor0 X W r then (j.val : ℝ) + 1 else 4097), sub_coe]

/-- The quick way's distance. -/
def quickDist (X : Fin 512 → Fin 256 → ℝ) (W : Fin 256 → Fin 4096 → ℝ) (r : Fin 512) : ℝ := √(max (low (part (X r) W) + norm2 (X r)) 0)

include hx hw in
theorem quickRoot_at (r : Fin 512) :
    k0_pay2 (k0_pay24 x) (least x w (k0_pay16 w)) (ix2 r 0) = ((quickDist X W r : ℝ) : EReal) := by
  rw [pay2_at, least_at hx hw, norm_at hx, add_coe, ← EReal.coe_zero, max_coe, sqrt_coe (le_max_right _ _)]
  rfl

include hx hw in
theorem quickAcc_at (a : ℝ) :
    quickAcc (F := Ideal) x w (k0_pay16 w) ((a : ℝ) : EReal) = ((a + ∑ r, quickDist X W r : ℝ) : EReal) := by
  unfold quickAcc
  rw [pay3_at]
  simp only [quickRoot_at hx hw, sum_coe, add_coe]

include hx hw in
theorem slowAcc_at (a : ℝ) :
    slowAcc (F := Ideal) x w (k0_pay16 w) (k0_pay17 w) ((a : ℝ) : EReal) = ((a + ∑ r, √(floor0 X W r) : ℝ) : EReal) := by
  unfold slowAcc k0_pay4
  rw [quickAcc_at hx hw, pay13_at]
  simp only [quickRoot_at hx hw, root_at hx hw, sum_coe, sub_coe]
  refine (add_coe _ _).trans ?_
  congr 1
  ring

end Cert.KernelIdeal.Body
end
-- ==== Proof.Value.Point.lean ====
module

public import proofs.«01_k».proof.Proof.Value.Fast
public import proofs.«01_k».proof.Proof.Value.Slow

/-! What one grid point writes: the nearest column of every row, its place on the map, and its share of the total. -/

@[expose] public section

set_option maxRecDepth 16384

noncomputable section

namespace Cert.KernelIdeal.Body

open Cert.KernelIdeal.Gen Cert.Near
open Idealize.ShloMosaic

/-- The place on the 64 by 64 map of a column. -/
def spot (n : BitVec 32) (a : Fin 2) : EReal :=
  if a.val = 0 then (((IntOp.shrsi .vector n 6#32).toInt : ℝ) : EReal) else (((IntOp.andi n 63#32).toInt : ℝ) : EReal)

theorem place_at (v : IVec S512x1 32) (r : Fin 512) (a : Fin 2) : k0_pay1 (F := Ideal) v (ix2 r a) = spot (v (ix2 r 0)) a := by
  match a with
  | ⟨0, _⟩ =>
    show k0_pay1 (F := Ideal) v (ix2 r 0) = _
    pointwise [k0_pay1]
    rfl
  | ⟨1, _⟩ =>
    show k0_pay1 (F := Ideal) v (ix2 r 1) = _
    pointwise [k0_pay1]
    rfl

variable {x : Vec Ideal S512x256 .f32} {w : Vec Ideal S256x4096 .f32} {X : Fin 512 → Fin 256 → ℝ} {W : Fin 256 → Fin 4096 → ℝ}

theorem outLoc_eq (s0 s1 s2 : Vec Ideal S1x4096 .f32) (s4 : Vec Ideal S2x1 .f32) :
    outLoc x w s0 s1 s2 s4 = k0_pay1 (outIdx x w s0 s1 s2 s4) := by
  unfold outLoc outIdx
  split_ifs
  · rfl
  · rfl

variable (hx : RealRows x X) (hw : RealCols w W)

include hx hw in
theorem outIdx_at (r : Fin 512) (k : Fin 4096) (hc : c ≤ low (far (X r) W)) (hk : First (far (X r) W) k) :
    outIdx x w (k0_pay16 w) (k0_pay17 w) nums (bounds w) (ix2 r 0) = BitVec.ofNat 32 k.val := by
  unfold outIdx
  split_ifs with h
  · rw [slow_at hx hw r]
    have hb : floor0 X W r = max (low (near (X r) W)) 0 := rfl
    obtain ⟨j, hj, hf⟩ := slow (X r) W hc
    rw [hb, hj, hf.unique hk, add_sub_cancel_right]
    exact fptosi_nat k.isLt
  · rw [quick_at hx hw r]
    obtain ⟨j, hj, hf, _⟩ := quick (X r) W (spread_at hx hw h r)
    rw [hj, hf.unique hk, add_sub_cancel_right]
    exact fptosi_nat k.isLt

include hx hw in
theorem outAcc_at (a : ℝ) : ∃ v : Fin 512 → ℝ, (∀ r, |v r - low (Near.dist (X r) W)| ≤ tol)
    ∧ outAcc x w (k0_pay16 w) (k0_pay17 w) nums (bounds w) ((a : ℝ) : EReal) = ((a + ∑ r, v r : ℝ) : EReal) := by
  unfold outAcc
  split_ifs with h
  · exact ⟨fun r => √(floor0 X W r), fun r => close_slow (X r) W, slowAcc_at hx hw a⟩
  · refine ⟨fun r => quickDist X W r, fun r => ?_, quickAcc_at hx hw a⟩
    obtain ⟨j, _, hf, hl⟩ := quick (X r) W (spread_at hx hw h r)
    exact close_quick (X r) W hf hl

end Cert.KernelIdeal.Body

end

end
-- ==== Proof.Value.Array.lean ====
module

public import proofs.«01_k».proof.Proof.Value.Point
public import proofs.«01_k».proof.Proof.KernelIdeal.Frame
public import Idealize.ShloMosaic.Lib.Pipeline.ValueKit
public import Idealize.ShloMosaic.Lib.StableHlo.RunRead

/-! The launch's arrays: what each block becomes of them, and what the host makes of the total and the places. -/

@[expose] public section

set_option maxRecDepth 16384

noncomputable section

namespace Cert.KernelIdeal.Body

open Cert.KernelIdeal.Gen Cert.Near
open Idealize.ShloMosaic Idealize.ShloMosaic.TcCoe
open Idealize.ShloMosaic.Pipeline (Dat)

variable (m : (ℓ : Loc nD τ sig) → Buf (Elt Ideal) ℓ)

theorem index0 : ∀ t : Fin cfg0.N, win0_0.index t = ![(grid0.coords t 0).val, 0] ∧ win0_1.index t = ![0, 0]
    ∧ win0_2.index t = ![(grid0.coords t 0).val, 0] ∧ win0_3.index t = ![(grid0.coords t 0).val, 0] :=
  (by decide +kernel : ∀ t : Fin grid0.N, _)

theorem coord (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The array row of row `r` of point `t`. -/
def rowOf (t : Fin cfg0.N) (r : Fin 512) : Fin 4096 := ⟨t.val * 512 + r.val, by
  have ht : t.val < 8 := Nat.lt_of_lt_of_eq t.isLt N_0
  omega⟩

theorem emb0 (t : Fin cfg0.N) (r : Fin 512) (d : Fin 256) : (win0_0.blk t).view.emb (ix2 r d) = ix2 (rowOf t r) d := by
  funext a
  refine Fin.ext ?_
  have h := (index0 t).1
  have hc := coord t
  match a with
  | ⟨0, _⟩ => blk_simp [h, hc]; rfl
  | ⟨1, _⟩ => blk_simp [h, hc]
theorem emb1 (t : Fin cfg0.N) (d : Fin 256) (k : Fin 4096) : (win0_1.blk t).view.emb (ix2 d k) = ix2 d k := by
  funext a
  refine Fin.ext ?_
  have h := (index0 t).2.1
  match a with
  | ⟨0, _⟩ => blk_simp [h]
  | ⟨1, _⟩ => blk_simp [h]
theorem emb2 (t : Fin cfg0.N) (r : Fin 512) : (win0_2.blk t).view.emb (ix2 r 0) = ix2 (rowOf t r) 0 := by
  funext a
  refine Fin.ext ?_
  have h := (index0 t).2.2.1
  have hc := coord t
  match a with
  | ⟨0, _⟩ => blk_simp [h, hc]; rfl
  | ⟨1, _⟩ => blk_simp [h, hc]
theorem emb3 (t : Fin cfg0.N) (r : Fin 512) (a : Fin 2) : (win0_3.blk t).view.emb (ix2 r a) = ix2 (rowOf t r) a := by
  funext a
  refine Fin.ext ?_
  have h := (index0 t).2.2.2
  have hc := coord t
  match a with
  | ⟨0, _⟩ => blk_simp [h, hc]; rfl
  | ⟨1, _⟩ => blk_simp [h, hc]

theorem rows_at (c : Dev nD) (t : Fin cfg0.N) (r : Fin 512) (d : Fin 256) :
    rows m c t (ix2 r d) = m ((c : Thread nD τ).loc main_arg0) (ix2 (rowOf t r) d) := by
  show iblk m c 0 t (ix2 r d) = _
  blk_simp [iblk, V]
  rw [emb0]; rfl

theorem weights_at (c : Dev nD) (d : Fin 256) (k : Fin 4096) :
    weights m c (ix2 d k) = m ((c : Thread nD τ).loc main_arg1) (ix2 d k) := by
  show iblk m c 1 _ (ix2 d k) = _
  blk_simp [iblk, V]
  rw [emb1]; rfl

theorem idx_final (c : Dev nD) (P : S4096x1.Idx → BitVec 32 → Prop)
    (h : ∀ t r, P (ix2 (rowOf t r) 0) (idxAt m c t (ix2 r 0))) (i : S4096x1.Idx) :
    P i ((dats m 0 c).arrAt 2 cfg0.N i) := by
  refine (dats m 0 c).arrAt_forall_of_covers 2 (fun i v => P i v) (by decide +kernel) (fun t _ y => ?_) i
  blk_simp
  rw [after2]
  have e : y = ix2 (y 0) 0 := by
    idx_vars y
    exact congrArg (ix2 _) (Subsingleton.elim _ _)
  rw [e]
  exact (congrArg (fun i => P i (idxAt m c t (ix2 (y 0) 0))) (emb2 t (y 0))).mpr (h t (y 0))

theorem loc_final (c : Dev nD) (P : S4096x2.Idx → EReal → Prop)
    (h : ∀ t r a, P (ix2 (rowOf t r) a) (locAt m c t (ix2 r a))) (i : S4096x2.Idx) :
    P i ((dats m 0 c).arrAt 3 cfg0.N i) := by
  refine (dats m 0 c).arrAt_forall_of_covers 3 (fun i v => P i v) (by decide +kernel) (fun t _ y => ?_) i
  blk_simp
  rw [after3]
  have e : y = ix2 (y 0) (y 1) := by idx_vars y; rfl
  rw [e]
  exact (congrArg (fun i => P i (locAt m c t (ix2 (y 0) (y 1)))) (emb3 t (y 0) (y 1))).mpr (h t (y 0) (y 1))

/-- The total after the last point. -/
def lastTotal (c : Dev nD) : EReal := total m c 7 (by rw [show cfg0.N = 8 from N_0]; decide)

theorem total_last (c : Dev nD) (n : ℕ) (hn : n < cfg0.N) (h : n = 7) : total m c n hn = lastTotal m c := by
  subst h; rfl

theorem sum_final (c : Dev nD) (i : S1x1.Idx) : (dats m 0 c).arrAt 4 cfg0.N i = lastTotal m c := by
  refine (dats m 0 c).arrAt_forall_of_covers 4 (fun _ v => v = lastTotal m c) (by decide +kernel) (fun t ht y => ?_) i
  blk_simp
  rw [after4]
  have h7 : t.val = 7 := by
    by_contra hn
    rw [kept4 t (fun h => hn ((atLast_iff t).1 h))] at ht
    exact absurd ht (by decide)
  exact total_last m c t.val t.isLt h7

/-! ## What the host makes of them -/

theorem tail_loss (U : Valuation τ sig (Elt Ideal)) :
    (StableHlo.after (List.flatten [hostOps1]) U (Proc.devRef .tc main_v2) : FVec Ideal S_ .f32)
      = Host.divf (F := Ideal) (shapeCast S_ (U (Proc.devRef .tc main_v0_2) : FVec Ideal S1x1 .f32) shapeCasts_S1x1_S_) (constant (F := Ideal) S_ .f32 0x45800000#32) := by
  simp only [List.flatten_cons, List.flatten_nil, List.append_nil, hostOps1]
  after_reads_simp
  rfl

theorem tail_loc (U : Valuation τ sig (Elt Ideal)) :
    (StableHlo.after (List.flatten [hostOps1]) U (Proc.devRef .tc main_v3) : FVec Ideal S4096x1x2 .f32)
      = shapeCast S4096x1x2 (U (Proc.devRef .tc main_v0_1) : FVec Ideal S4096x2 .f32) shapeCasts_S4096x2_S4096x1x2 := by
  simp only [List.flatten_cons, List.flatten_nil, List.append_nil, hostOps1]
  after_reads_simp
  rfl

theorem loss_tail (c : Dev nD) (i : S_.Idx) :
    (Pipeline.afterTail₀ cfgs (dats m) 0 (V0 m) [hostOps1] c main_v2 : S_.Idx → EReal) i = Ideal.div (lastTotal m c) (Ideal.ofBits .f32 0x45800000#32) := by
  unfold Pipeline.afterTail₀
  refine (congrFun (tail_loss _) _).trans ?_
  have e := fun j => congrFun (Pipeline.withArrays_arr spec0 launch0.win.arr_inj c (V0 m c) (fun w => (dats m 0 c).arrAt w (cfgs 0).N) 4) j
  exact congrArg (fun a : EReal => Ideal.div a (Ideal.ofBits .f32 0x45800000#32)) ((e _).trans (sum_final m c _))

theorem loc_tail (c : Dev nD) (r : Fin 4096) (a : Fin 2) :
    (Pipeline.afterTail₀ cfgs (dats m) 0 (V0 m) [hostOps1] c main_v3 : S4096x1x2.Idx → EReal) (ix3 r 0 a) = (dats m 0 c).arrAt 3 cfg0.N (ix2 r a) := by
  unfold Pipeline.afterTail₀
  refine (congrFun (tail_loc _) _).trans ?_
  pointwise
  exact congrFun (Pipeline.withArrays_arr spec0 launch0.win.arr_inj c (V0 m c) (fun w => (dats m 0 c).arrAt w (cfgs 0).N) 3) (ix2 r a)

/-! ## Over real arrays -/

section

variable {c : Dev nD} {X : Fin 4096 → Fin 256 → ℝ} {W : Fin 256 → Fin 4096 → ℝ}
  (hx : ∀ r d, m ((c : Thread nD τ).loc main_arg0) (ix2 r d) = ((X r d : ℝ) : EReal))
  (hw : ∀ d k, m ((c : Thread nD τ).loc main_arg1) (ix2 d k) = ((W d k : ℝ) : EReal))

include hx in
theorem real_rows (t : Fin cfg0.N) : RealRows (rows m c t) (fun r => X (rowOf t r)) := fun r d => (rows_at m c t r d).trans (hx _ _)
include hw in
theorem real_cols : RealCols (weights m c) W := fun d k => (weights_at m c d k).trans (hw _ _)

include hx hw in
theorem idxAt_at (t : Fin cfg0.N) (r : Fin 512) (k : Fin 4096) (hc : Near.c ≤ low (far (X (rowOf t r)) W)) (hk : First (far (X (rowOf t r)) W) k) :
    idxAt m c t (ix2 r 0) = BitVec.ofNat 32 k.val :=
  outIdx_at (real_rows m hx t) (real_cols m hw) r k hc hk

include hx hw in
theorem idx_value (r k : Fin 4096) (hc : Near.c ≤ low (far (X r) W)) (hk : First (far (X r) W) k) :
    ((dats m 0 c).arrAt 2 cfg0.N : S4096x1.Idx → BitVec 32) (ix2 r 0) = BitVec.ofNat 32 k.val :=
  idx_final m c (fun i v => ∀ k, Near.c ≤ low (far (X (i 0)) W) → First (far (X (i 0)) W) k → v = BitVec.ofNat 32 k.val)
    (fun t r k hc hk => idxAt_at m hx hw t r k hc hk) (ix2 r 0) k hc hk

include hx hw in
theorem loc_value (r k : Fin 4096) (a : Fin 2) (hc : Near.c ≤ low (far (X r) W)) (hk : First (far (X r) W) k) :
    ((dats m 0 c).arrAt 3 cfg0.N : S4096x2.Idx → EReal) (ix2 r a) = spot (BitVec.ofNat 32 k.val) a :=
  loc_final m c (fun i v => ∀ k, Near.c ≤ low (far (X (i 0)) W) → First (far (X (i 0)) W) k → v = spot (BitVec.ofNat 32 k.val) (i 1))
    (fun t r a k hc hk => by
      have e : locAt m c t (ix2 r a) = spot (idxAt m c t (ix2 r 0)) a := by
        unfold locAt idxAt
        rw [outLoc_eq]
        exact place_at _ r a
      rw [e, idxAt_at m hx hw t r k hc hk]; rfl) (ix2 r a) k hc hk

/-- The sum of the least distances of the rows of point `n`. -/
def share (X : Fin 4096 → Fin 256 → ℝ) (W : Fin 256 → Fin 4096 → ℝ) (n : ℕ) : ℝ :=
  if h : n < cfg0.N then ∑ r, low (Near.dist (X (rowOf ⟨n, h⟩ r)) W) else 0

include hx hw in
theorem step_near (t : Fin cfg0.N) (a : ℝ) : ∃ b : ℝ, step m c t ((a : ℝ) : EReal) = ((a + b : ℝ) : EReal) ∧ |b - share X W t.val| ≤ 512 * tol := by
  obtain ⟨v, hv, he⟩ := outAcc_at (real_rows m hx t) (real_cols m hw) a
  refine ⟨∑ r, v r, he, ?_⟩
  unfold share
  rw [dif_pos t.isLt, ← Finset.sum_sub_distrib]
  refine (Finset.abs_sum_le_sum_abs _ _).trans ?_
  refine (Finset.sum_le_sum fun r _ => hv r).trans ?_
  rw [Finset.sum_const, Finset.card_univ, Fintype.card_fin, nsmul_eq_mul]
  norm_num

include hx hw in
theorem total_near (n : ℕ) (hn : n < cfg0.N) : ∃ s : ℝ, total m c n hn = ((s : ℝ) : EReal)
    ∧ |s - ∑ k ∈ Finset.range (n + 1), share X W k| ≤ (n + 1) * (512 * tol) := by
  induction n with
  | zero =>
    obtain ⟨b, he, hb⟩ := step_near m hx hw ⟨0, hn⟩ 0
    refine ⟨0 + b, ?_, ?_⟩
    · rw [← he, EReal.coe_zero]
      exact congrArg (step m c ⟨0, hn⟩) (Ideal.ofBits_zero ..)
    · rw [Finset.sum_range_one, zero_add]
      norm_num
      exact hb
  | succ n ih =>
    obtain ⟨s, hs, hd⟩ := ih (Nat.lt_of_succ_lt hn)
    obtain ⟨b, he, hb⟩ := step_near m hx hw ⟨n + 1, hn⟩ s
    refine ⟨s + b, ?_, ?_⟩
    · rw [← he, ← hs]; rfl
    · rw [Finset.sum_range_succ, show s + b - (∑ k ∈ Finset.range (n + 1), share X W k + share X W (n + 1))
        = (s - ∑ k ∈ Finset.range (n + 1), share X W k) + (b - share X W (n + 1)) by ring]
      refine (abs_add_le _ _).trans ?_
      push_cast
      have : |b - share X W (n + 1)| ≤ 512 * tol := hb
      linarith

theorem sum_share (X : Fin 4096 → Fin 256 → ℝ) (W : Fin 256 → Fin 4096 → ℝ) :
    ∑ k ∈ Finset.range (7 + 1), share X W k = ∑ r, low (Near.dist (X r) W) := by
  have hN : cfg0.N = 8 := N_0
  rw [← Equiv.sum_comp (finProdFinEquiv (m := 8) (n := 512)) fun r : Fin 4096 => low (Near.dist (X r) W), Fintype.sum_prod_type, Finset.sum_range]
  refine Finset.sum_congr rfl fun t _ => ?_
  unfold share
  rw [dif_pos (hN ▸ t.isLt)]
  refine Finset.sum_congr rfl fun r _ => ?_
  have e : rowOf ⟨t.val, hN ▸ t.isLt⟩ r = finProdFinEquiv (t, r) := Fin.ext (by
    rw [finProdFinEquiv_apply_val]
    show t.val * 512 + r.val = r.val + 512 * t.val
    omega)
  rw [e]

include hx hw in
theorem loss_value (i : S_.Idx) : ∃ s : ℝ,
    (Pipeline.afterTail₀ cfgs (dats m) 0 (V0 m) [hostOps1] c main_v2 : S_.Idx → EReal) i = ((s : ℝ) : EReal)
    ∧ |s - (∑ r, low (Near.dist (X r) W)) / 4096| ≤ tol := by
  obtain ⟨s, hs, hd⟩ := total_near m hx hw 7 (by rw [show cfg0.N = 8 from N_0]; decide)
  refine ⟨s / 4096, ?_, ?_⟩
  · rw [loss_tail]
    unfold lastTotal
    rw [hs, lit_rows, Ideal.div_coe (by norm_num), mul_coe, mul_one_div]
  · rw [sum_share] at hd
    rw [← sub_div, abs_div, abs_of_pos (by norm_num : (0 : ℝ) < 4096), div_le_iff₀ (by norm_num)]
    norm_num at hd
    linarith

end

end Cert.KernelIdeal.Body

end

end
-- ==== Proof.Value.Pre.lean ====
module

public import proofs.«01_k».proof.Proof.Value.Point
public import proofs.«01_k».proof.Pre_finite
public import proofs.«01_k».proof.Pre_regular
public import proofs.«01_k».proof.Proof.Gen.Pre_finite
public import proofs.«01_k».proof.Proof.Gen.Pre_regular
public import Idealize.ShloMosaic.Lib.ReduceAll

/-! What the preconditions give: real entries, and the table's places. -/

@[expose] public section

set_option maxRecDepth 16384

noncomputable section

namespace Cert.Pre_finite

open Idealize.ShloMosaic Cert.Near

theorem of_bit {b : Bool} (h : BitVec.ofBool b = 1#1) : b = true := by
  cases b
  · exact absurd h (by decide)
  · rfl

variable {x : FVec Ideal S4096x256 .f32} {w : FVec Ideal S256x4096 .f32} {g : FVec Ideal Cert.Pre_regular.S4096x2 .f32}

theorem parts (h : fn (F := Ideal) x w g = fun _ => 1#1) :
    (∀ i, cmpf .olt (Host.absf x) (broadcastInDim S4096x256 ![] Gen.bcast_S_S4096x256 (constant (F := Ideal) S_ .f32 0x7F800000#32)) i = 1#1)
    ∧ ∀ i, cmpf .olt (Host.absf w) (broadcastInDim S256x4096 ![] Gen.bcast_S_S256x4096 (constant (F := Ideal) S_ .f32 0x7F800000#32)) i = 1#1 := by
  have h0 := congrFun h ix0
  unfold fn at h0
  obtain ⟨h3, h4⟩ := IntOp.andi_eq_one.1 h0
  exact ⟨fun i => Host.reduce_andi_all _ _ _ _ _ h3 i, fun i => Host.reduce_andi_all _ _ _ _ _ h4 i⟩

theorem real_x (h : fn (F := Ideal) x w g = fun _ => 1#1) : ∃ X : Fin 4096 → Fin 256 → ℝ, ∀ r d, x (ix2 r d) = ((X r d : ℝ) : EReal) := by
  have : ∀ r d, ∃ a : ℝ, x (ix2 r d) = (a : EReal) := fun r d => by
    have h1 := (parts h).1 (ix2 r d)
    revert h1
    pointwise
    intro h1
    exact real_of_abs (lt_of_lt_of_eq (of_decide_eq_true (of_bit h1)) lit_top)
  choose X hX using this
  exact ⟨X, hX⟩

theorem real_w (h : fn (F := Ideal) x w g = fun _ => 1#1) : ∃ W : Fin 256 → Fin 4096 → ℝ, ∀ d k, w (ix2 d k) = ((W d k : ℝ) : EReal) := by
  have : ∀ d k, ∃ a : ℝ, w (ix2 d k) = (a : EReal) := fun d k => by
    have h1 := (parts h).2 (ix2 d k)
    revert h1
    pointwise
    intro h1
    exact real_of_abs (lt_of_lt_of_eq (of_decide_eq_true (of_bit h1)) lit_top)
  choose W hW using this
  exact ⟨W, hW⟩

end Cert.Pre_finite

namespace Cert.Pre_regular

open Idealize.ShloMosaic Cert.Near
open Cert.KernelIdeal.Body (spot)

variable {x : FVec Ideal S4096x256 .f32} {w : FVec Ideal S256x4096 .f32} {g : FVec Ideal S4096x2 .f32}

theorem parts (h : fn (F := Ideal) x w g = fun _ => 1#1) :
    Cert.Pre_finite.fn (F := Ideal) x w g = (fun _ => 1#1)
    ∧ ∀ i, cmpf .oeq g (sitofp .f32 (select (cmpi .eq (iotaInDim S4096x2 32 1) (broadcastInDim S4096x2 ![] Gen.bcast_S_S4096x2 (constantI S_ 32 0#32)))
        (Host.shrsi (iotaInDim S4096x2 32 0) (broadcastInDim S4096x2 ![] Gen.bcast_S_S4096x2 (constantI S_ 32 6#32)))
        (andi (iotaInDim S4096x2 32 0) (broadcastInDim S4096x2 ![] Gen.bcast_S_S4096x2 (constantI S_ 32 63#32))))) i = 1#1 := by
  have h0 := congrFun h ix0
  unfold fn fn_part1 at h0
  obtain ⟨h1, h2⟩ := IntOp.andi_eq_one.1 h0
  refine ⟨?_, fun i => Host.reduce_andi_all _ _ _ _ _ h2 i⟩
  unfold Cert.Pre_finite.fn
  funext i
  obtain rfl : i = ix0 := Subsingleton.elim _ _
  exact h1

theorem places (h : fn (F := Ideal) x w g = fun _ => 1#1) (k : Fin 4096) (a : Fin 2) : g (ix2 k a) = spot (BitVec.ofNat 32 k.val) a := by
  match a with
  | ⟨0, _⟩ =>
    have h1 := (parts h).2 (ix2 k 0)
    revert h1
    pointwise
    intro h1
    exact of_decide_eq_true (Cert.Pre_finite.of_bit h1)
  | ⟨1, _⟩ =>
    have h1 := (parts h).2 (ix2 k 1)
    revert h1
    pointwise
    intro h1
    exact of_decide_eq_true (Cert.Pre_finite.of_bit h1)

end Cert.Pre_regular

end

end
-- ==== Proof.Ref.Run.lean ====
module

public import proofs.«01_k».proof.Proof.Gen.ReferenceIdeal
public import proofs.«01_k».proof.Defs
public import Idealize.ShloMosaic.Lib.Claim
public import Idealize.ShloMosaic.Lib.Quiescent
public import Idealize.ShloMosaic.Lib.StableHlo.RunRead

/-! The reference's run: it ends, its arguments keep their contents, and its three results are the terms named
    here. -/

@[expose] public section

set_option maxRecDepth 16384

noncomputable section

namespace Cert.R.Run

open Idealize.ShloMosaic Idealize.SL.Sem
open Cert.ReferenceIdeal

/-- Every row's squared distance from every column. -/
def squares (x : FVec Ideal S4096x256 .f32) (w : FVec Ideal S256x4096 .f32) : FVec Ideal S4096x4096 .f32 :=
  addf (addf (subf (addf
    (broadcastInDim S4096x4096 ![0, 1] Gen.bcast_S4096x1_S4096x4096_0_1 (broadcastInDim S4096x1 ![0] Gen.bcast_S4096_S4096x1_0 (Host.reduceAdd (mulf x x) (constant S_ .f32 0x00000000#32) Gen.reducesTo_S4096x256_S4096_d1 Gen.h_S_)))
    (broadcastInDim S4096x4096 ![0, 1] Gen.bcast_S1x4096_S4096x4096_0_1 (broadcastInDim S1x4096 ![1] Gen.bcast_S4096_S1x4096_1 (Host.reduceAdd (mulf w w) (constant S_ .f32 0x00000000#32) Gen.reducesTo_S256x4096_S4096_d0 Gen.h_S_))))
    (mulf (broadcastInDim S4096x4096 ![] Gen.bcast_S_S4096x4096 (constant S_ .f32 0x40000000#32)) (Host.dotGeneral dot_S4096x256_S256x4096_S4096x4096_1_0_0_1_n_n none x w)))
    (mulf (broadcastInDim S4096x4096 ![] Gen.bcast_S_S4096x4096 (constant S_ .f32 0x360637BD#32))
      (subf (broadcastInDim S4096x4096 ![0, 1] Gen.bcast_S4096x1_S4096x4096_0_1 (broadcastInDim S4096x1 ![0] Gen.bcast_S4096_S4096x1_0 (Host.reduceAdd x (constant S_ .f32 0x00000000#32) Gen.reducesTo_S4096x256_S4096_d1 Gen.h_S_)))
        (broadcastInDim S4096x4096 ![0, 1] Gen.bcast_S1x4096_S4096x4096_0_1 (broadcastInDim S1x4096 ![1] Gen.bcast_S4096_S1x4096_1 (Host.reduceAdd w (constant S_ .f32 0x00000000#32) Gen.reducesTo_S256x4096_S4096_d0 Gen.h_S_))))))
    (broadcastInDim S4096x4096 ![] Gen.bcast_S_S4096x4096 (constant S_ .f32 0x2F8CBCCC#32))

/-- Every row's distance from every column. -/
def dist (x : FVec Ideal S4096x256 .f32) (w : FVec Ideal S256x4096 .f32) : FVec Ideal S4096x4096 .f32 :=
  Host.sqrt (maximumf (squares x w) (broadcastInDim S4096x4096 ![] Gen.bcast_S_S4096x4096 (constant S_ .f32 0x00000000#32)))

/-- Every row's least entry. -/
def leasts (D : FVec Ideal S4096x4096 .f32) : FVec Ideal S4096x1 .f32 :=
  broadcastInDim S4096x1 ![0] Gen.bcast_S4096_S4096x1_0
    (Host.reduce FloatOps.minimumf D (constant S_ .f32 0x7F800000#32) Gen.reducesTo_S4096x4096_S4096_d1 Gen.h_S_)

/-- The mean of every row's least distance. -/
def mean (D : FVec Ideal S4096x4096 .f32) : FVec Ideal S_ .f32 :=
  Host.divf (Host.reduceAdd (leasts D) (constant S_ .f32 0x00000000#32) Gen.reducesTo_S4096x1_S_d0_1 Gen.h_S_) (constant S_ .f32 0x45800000#32)

/-- The second part of a reduction of pairs. -/
def second {s t u : Shape} {axes : List (Fin s.rank)} (g : EReal × BitVec 32 → EReal × BitVec 32 → EReal × BitVec 32)
    (y : FVec Ideal s .f32) (z : s.Idx → BitVec 32) (iy : FVec Ideal u .f32) (iz : u.Idx → BitVec 32) (h : s.ReducesTo axes t)
    (hu : 0 < u.numel) (j : t.Idx) : BitVec 32 :=
  (Host.argReduce (φ := .f32) g y z iy iz h hu j).2

/-- The column of every row's least distance. -/
def nearest (D : FVec Ideal S4096x4096 .f32) : IVec S4096 32 :=
  second (reducer_argmin_f32_i32 (F := Ideal)) D (iotaInDim S4096x4096 32 1) (constant S_ .f32 0x7F800000#32) (constantI S_ 32 0#32)
    Gen.reducesTo_S4096x4096_S4096_d1 Gen.h_S_

/-- The same with a trailing axis of one. -/
def column (D : FVec Ideal S4096x4096 .f32) : IVec S4096x1 32 :=
  broadcastInDim S4096x1 ![0] Gen.bcast_S4096_S4096x1_0 (nearest D)

/-- The rows of the table at the given columns, a negative one counted from the end. -/
def places (i : IVec S4096x1 32) (g : FVec Ideal S4096x2 .f32) : FVec Ideal S4096x1x2 .f32 :=
  Host.gather gather_S4096x2_S4096x1x1_S4096x1x2_2_0_n_n_0_2_12 g
    (broadcastInDim S4096x1x1 ![0, 1] Gen.bcast_S4096x1_S4096x1x1_0_1
      (select (cmpi .slt i (broadcastInDim S4096x1 ![] Gen.bcast_S_S4096x1 (constantI S_ 32 0#32)))
        (addi i (broadcastInDim S4096x1 ![] Gen.bcast_S_S4096x1 (constantI S_ 32 4096#32))) i))

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem (c.tc.loc main_v31) = column (dist (m (c.tc.loc main_arg0)) (m (c.tc.loc main_arg1)))
        ∧ r.2.mem (c.tc.loc main_v38) = places (column (dist (m (c.tc.loc main_arg0)) (m (c.tc.loc main_arg1)))) (m (c.tc.loc main_arg2))
        ∧ r.2.mem (c.tc.loc main_v40) = mean (dist (m (c.tc.loc main_arg0)) (m (c.tc.loc main_arg1))))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) := by
  refine θ_run_mono (StableHlo.run_hlo _ _ (by
    intro d
    unfold main fn_argmin.body
    simp only [bind_assoc, pure_bind]
    hlo_seq) (by decide) (by decide) (by simp)
      (by intro _ h; (repeat (cases h with | head => rfl | tail _ h => ?_)); exact nomatch h) m ρ) ?_
  intro r h c
  rw [h c main_v31, h c main_v38, h c main_v40, h c main_arg0, h c main_arg1, h c main_arg2]
  refine ⟨⟨?_, ?_, ?_⟩, ?_, ?_, ?_⟩
  · after_reads_simp
    rfl
  · after_reads_simp
    rfl
  · after_reads_simp
    rfl
  · after_reads_simp
  · after_reads_simp
  · after_reads_simp

end Cert.R.Run

end

end
-- ==== Proof.Ref.Arg.lean ====
module

public import proofs.«01_k».proof.Proof.Ref.Run
public import proofs.«01_k».proof.Proof.Value.Cast
public import Idealize.ShloMosaic.Lib.Pointwise

/-! The reference's arg-min, and the places it looks up. -/

@[expose] public section

set_option maxRecDepth 16384

noncomputable section

namespace Cert.R.Run

open Idealize.ShloMosaic Cert.Near
open Cert.ReferenceIdeal

variable {D : FVec Ideal S4096x4096 .f32} {f : Fin 4096 → Fin 4096 → ℝ} (hD : ∀ r k, D (ix2 r k) = ((f r k : ℝ) : EReal))

/-! ## The arg-min -/

/-- A column's entry and its number. -/
def entry (f : Fin 4096 → ℝ) (k : Fin 4096) : EReal × BitVec 32 := (((f k : ℝ) : EReal), BitVec.ofNat 32 k.val)

theorem slt_iff (i j : Fin 4096) : IntOp.cmpi .slt (BitVec.ofNat 32 i.val) (BitVec.ofNat 32 j.val) = 1#1 ↔ i < j := by
  have h : ∀ k : Fin 4096, (BitVec.ofNat 32 k.val).toInt = k.val := fun k => by
    rw [BitVec.toInt_eq_toNat_of_lt] <;> rw [BitVec.toNat_ofNat, Nat.mod_eq_of_lt (by omega)]
    omega
  rw [IntOp.cmpi_slt, h, h]; exact Int.ofNat_lt

theorem bit (b : BitVec 1) : b = 0#1 ∨ b = 1#1 := by revert b; decide

theorem chosen {p s b : BitVec 1} {P S B : Prop} (hp : p = 1#1 ↔ P) (hs : s = 1#1 ↔ S) (hb : b = 1#1 ↔ B) [Decidable (P ∨ (S ∧ B))]
    (u v : EReal × BitVec 32) (hS : S → u.1 = v.1) :
    (Scalar.select (IntOp.ori p 0#1) u.1 v.1, Scalar.select (IntOp.ori (IntOp.ori p 0#1) (IntOp.andi s b)) u.2 v.2)
      = if P ∨ (S ∧ B) then u else v := by
  rw [← hs] at hS
  simp only [← hp, ← hs, ← hb]
  rcases bit p with rfl | rfl <;> rcases bit s with rfl | rfl <;> rcases bit b with rfl | rfl <;>
    simp [Scalar.select, IntOp.ori, IntOp.andi] <;> exact Prod.ext (hS rfl).symm rfl

theorem pick (f : Fin 4096 → ℝ) (i j : Fin 4096) :
    reducer_argmin_f32_i32 (F := Ideal) (entry f i) (entry f j) = if f i < f j ∨ (f i = f j ∧ i < j) then entry f i else entry f j := by
  have h0 : Ideal.cmp .une (entry f i).1 (entry f i).1 = 0#1 := by simp [Ideal.cmp]
  have hp : Ideal.cmp .olt (entry f i).1 (entry f j).1 = 1#1 ↔ f i < f j := (cmp_olt _ _).trans EReal.coe_lt_coe_iff
  have hs : Ideal.cmp .oeq (entry f i).1 (entry f j).1 = 1#1 ↔ f i = f j := (cmp_oeq _ _).trans EReal.coe_eq_coe_iff
  refine Eq.trans ?_ (chosen hp hs (slt_iff i j) (entry f i) (entry f j) fun h => congrArg (fun q : ℝ => (q : EReal)) h)
  unfold reducer_argmin_f32_i32
  simp only [Ideal.cmpf_def, h0]
  rfl

theorem pick_start (f : Fin 4096 → ℝ) (j : Fin 4096) :
    reducer_argmin_f32_i32 (F := Ideal) ((⊤ : EReal), 0#32) (entry f j) = entry f j := by
  have h' : ¬ (⊤ : EReal) = (f j : EReal) := (EReal.coe_ne_top _).symm
  unfold reducer_argmin_f32_i32 entry
  simp [Ideal.cmpf_def, Ideal.cmp, h', Scalar.select, IntOp.ori, IntOp.andi]

theorem foldl_pick {f : Fin 4096 → ℝ} {k : Fin 4096} (hk : First f k) :
    ∀ (l : List (EReal × BitVec 32)) (a : EReal × BitVec 32), (∀ p ∈ l, ∃ j, p = entry f j) →
      (a = entry f k ∨ ((a = (⊤, 0#32) ∨ ∃ j, a = entry f j) ∧ entry f k ∈ l)) →
      l.foldl (reducer_argmin_f32_i32 (F := Ideal)) a = entry f k
  | [], a, _, h => by
    rcases h with h | ⟨_, h⟩
    · exact h
    · exact nomatch h
  | p :: l, a, hl, h => by
    rw [List.foldl_cons]
    obtain ⟨j, rfl⟩ := hl p (List.mem_cons_self ..)
    refine foldl_pick hk l _ (fun q hq => hl q (List.mem_cons_of_mem _ hq)) ?_
    have hkj : reducer_argmin_f32_i32 (F := Ideal) (entry f k) (entry f j) = entry f k := by
      rw [pick]
      split_ifs with hc
      · rfl
      · rw [not_or, not_and] at hc
        rcases lt_trichotomy j k with hjk | hjk | hjk
        · exact absurd (hk.2 j hjk) hc.1
        · rw [hjk]
        · exact absurd hjk (hc.2 (le_antisymm (hk.1 j) (not_lt.1 hc.1)))
    have hjk : ∀ i, reducer_argmin_f32_i32 (F := Ideal) (entry f i) (entry f k) = entry f k := fun i => by
      rw [pick]
      split_ifs with hc
      · rcases hc with hc | ⟨hc, hik⟩
        · exact absurd hc (not_lt.2 (hk.1 i))
        · exact absurd hc (hk.2 i hik).ne'
      · rfl
    rcases h with rfl | ⟨ha, hm⟩
    · exact .inl hkj
    · rcases List.mem_cons.1 hm with he | hm
      · rw [← he]
        rcases ha with rfl | ⟨i, rfl⟩
        · exact .inl (pick_start f k)
        · exact .inl (hjk i)
      · refine .inr ⟨.inr ?_, hm⟩
        rcases ha with rfl | ⟨i, rfl⟩
        · exact ⟨j, pick_start f j⟩
        · rw [pick]
          split_ifs
          · exact ⟨i, rfl⟩
          · exact ⟨j, rfl⟩

/-- The entries the arg-min of a row runs over. -/
abbrev fiber (D : FVec Ideal S4096x4096 .f32) (r : Fin 4096) : List (EReal × BitVec 32) :=
  Host.argReduceFiber D (iotaInDim S4096x4096 32 1) Gen.reducesTo_S4096x4096_S4096_d1 (ix1 r)

theorem iota_at (r k : Fin 4096) : iotaInDim S4096x4096 32 1 (ix2 r k) = BitVec.ofNat 32 k.val := by
  pointwise

section
variable {s t : Shape} {axes : List (Fin s.rank)} {α β : Type}

theorem mem_fiber (y : s.Idx → α) (z : s.Idx → β) (h : s.ReducesTo axes t) (j : t.Idx) (i : s.Idx) (hi : h.drop i = j) :
    (y i, z i) ∈ Host.argReduceFiber y z h j := by
  refine List.mem_map.2 ⟨s.rowMajor i, List.mem_filter.2 ⟨List.mem_finRange _, ?_⟩, ?_⟩ <;> simp [hi]

theorem of_mem_fiber (y : s.Idx → α) (z : s.Idx → β) (h : s.ReducesTo axes t) (j : t.Idx) (p : α × β)
    (hp : p ∈ Host.argReduceFiber y z h j) : ∃ i, h.drop i = j ∧ p = (y i, z i) := by
  obtain ⟨n, hn, rfl⟩ := List.mem_map.1 hp
  exact ⟨s.rowMajor.symm n, by simpa using (List.mem_filter.1 hn).2, rfl⟩

end

theorem drop_at (r k : Fin 4096) : Gen.reducesTo_S4096x4096_S4096_d1.drop (ix2 r k) = ix1 r := by
  funext a; refine Fin.ext ?_
  match a with
  | ⟨0, _⟩ => rfl

include hD in
theorem fiber_at (r : Fin 4096) : (∀ p ∈ fiber D r, ∃ j, p = entry (f r) j) ∧ ∀ k, entry (f r) k ∈ fiber D r := by
  unfold fiber
  constructor
  · intro p hp
    obtain ⟨i, h, rfl⟩ := of_mem_fiber _ _ _ _ p hp
    have h0 : (i 0).val = r.val := congrArg (fun q : S4096.Idx => (q 0).val) h
    obtain ⟨j, rfl⟩ : ∃ j : Fin 4096, i = ix2 r j := ⟨i 1, funext fun a => by
      match a with
      | ⟨0, _⟩ => exact Fin.ext h0
      | ⟨1, _⟩ => rfl⟩
    exact ⟨j, Prod.ext (hD r j) (iota_at r j)⟩
  · intro k
    have h := mem_fiber D (iotaInDim S4096x4096 32 1) Gen.reducesTo_S4096x4096_S4096_d1 (ix1 r) (ix2 r k) (drop_at r k)
    rw [hD, iota_at] at h
    exact h

theorem of_fiber {s t u : Shape} {axes : List (Fin s.rank)} (g : EReal × BitVec 32 → EReal × BitVec 32 → EReal × BitVec 32)
    (y : FVec Ideal s .f32) (z : s.Idx → BitVec 32) (iy : FVec Ideal u .f32) (iz : u.Idx → BitVec 32) (h : s.ReducesTo axes t)
    (hu : 0 < u.numel) (j : t.Idx) (p : EReal × BitVec 32)
    (hp : ∀ L, L = Host.argReduceFiber y z h j → L.foldl g (iy (Shape.Idx.first hu), iz (Shape.Idx.first hu)) = p) :
    second g y z iy iz h hu j = p.2 := by
  unfold second
  rw [Ideal.argReduce_eq_reduce2, Host.reduce2_eq_foldl_fiber]
  exact congrArg Prod.snd (hp _ rfl)

theorem start_eq :
    ((constant S_ .f32 0x7F800000#32 : FVec Ideal S_ .f32) (Shape.Idx.first Gen.h_S_), (constantI S_ 32 0#32) (Shape.Idx.first Gen.h_S_))
      = ((⊤ : EReal), 0#32) := Prod.ext lit_top rfl

include hD in
theorem nearest_at (r k : Fin 4096) (hk : First (f r) k) : nearest D (ix1 r) = BitVec.ofNat 32 k.val := by
  refine of_fiber (reducer_argmin_f32_i32 (F := Ideal)) D (iotaInDim S4096x4096 32 1) (constant S_ .f32 0x7F800000#32) (constantI S_ 32 0#32)
    Gen.reducesTo_S4096x4096_S4096_d1 Gen.h_S_ (ix1 r) (entry (f r) k) ?_
  intro L hL
  have hl : (∀ p ∈ L, ∃ j, p = entry (f r) j) ∧ ∀ k, entry (f r) k ∈ L := by
    rw [hL]; exact fiber_at hD r
  exact (congrArg (L.foldl (reducer_argmin_f32_i32 (F := Ideal))) start_eq).trans (foldl_pick hk L ((⊤ : EReal), 0#32) hl.1 (.inr ⟨.inl rfl, hl.2 k⟩))

theorem trailing (v : IVec S4096 32) (r : Fin 4096) :
    broadcastInDim S4096x1 ![0] Gen.bcast_S4096_S4096x1_0 v (ix2 r 0) = v (ix1 r) := by pointwise

include hD in
theorem column_at (r k : Fin 4096) (hk : First (f r) k) : column D (ix2 r 0) = BitVec.ofNat 32 k.val :=
  (trailing (nearest D) r).trans (nearest_at hD r k hk)

/-- The table's look-up. -/
abbrev lookup : GatherDims S4096x2 S4096x1x1 S4096x1x2 := gather_S4096x2_S4096x1x1_S4096x1x2_2_0_n_n_0_2_12

theorem gather_at (g : FVec Ideal S4096x2 .f32) (i : IVec S4096x1x1 32) (r k : Fin 4096) (a : Fin 2) (h : i (ix3 r 0 0) = BitVec.ofNat 32 k.val) :
    Host.gather gather_S4096x2_S4096x1x1_S4096x1x2_2_0_n_n_0_2_12 g i (ix3 r 0 a) = g (ix2 k a) := by
  have hn : (BitVec.ofNat 32 k.val).toInt = k.val := by
    rw [BitVec.toInt_eq_toNat_of_lt] <;> rw [BitVec.toNat_ofNat, Nat.mod_eq_of_lt (by omega)]
    omega
  have m0 : (⟨0, by decide⟩ : Fin S4096x2.rank) ∈ lookup.startIndexMap := List.mem_singleton.2 rfl
  have m1 : (⟨1, by decide⟩ : Fin S4096x2.rank) ∉ lookup.startIndexMap := fun h =>
    Nat.one_ne_zero (congrArg Fin.val (List.mem_singleton.1 h))
  have k1 : (⟨1, by decide⟩ : Fin S4096x2.rank) ∈ lookup.sKept := (GatherDims.mem_sKept _ _).2
    ⟨fun h => Nat.one_ne_zero (congrArg Fin.val (List.mem_singleton.1 h)), List.not_mem_nil⟩
  unfold Host.gather
  refine congrArg g (funext fun b => Fin.ext ?_)
  show GatherDims.start lookup (ix3 r 0 a) i b
    + GatherDims.batchCoord lookup (ix3 r 0 a) b
    + GatherDims.offCoord lookup (ix3 r 0 a) b = _
  rw [GatherDims.batchCoord_eq_zero _ _ _ List.not_mem_nil]
  match b with
  | ⟨0, _⟩ =>
    rw [GatherDims.offCoord_eq_zero _ _ _ (fun h => ((GatherDims.mem_sKept _ _).1 h).1 (List.mem_singleton.2 rfl))]
    unfold GatherDims.start
    rw [dif_pos m0]
    have hs : ∀ c, GatherDims.siIdx lookup (ix3 r 0 a) c = ix3 r 0 0 := by
      intro c
      have hc : c.val = 0 := Nat.lt_one_iff.1 c.isLt
      funext b'; refine Fin.ext ?_
      match b' with
      | ⟨0, _⟩ => rfl
      | ⟨1, _⟩ => rfl
      | ⟨2, _⟩ => exact hc
    rw [hs, h, hn]
    show min (k.val : Int).toNat (4096 - 1) + 0 + 0 = k.val
    omega
  | ⟨1, _⟩ =>
    unfold GatherDims.start GatherDims.offCoord
    rw [dif_neg m1, dif_pos k1, Nat.zero_add]
    rfl

theorem places_at (i : IVec S4096x1 32) (g : FVec Ideal S4096x2 .f32) (r k : Fin 4096) (a : Fin 2) (h : i (ix2 r 0) = BitVec.ofNat 32 k.val) :
    places i g (ix3 r 0 a) = g (ix2 k a) := by
  unfold places
  refine gather_at g _ r k a ?_
  pointwise
  have hn : ¬ IntOp.cmpi .slt (BitVec.ofNat 32 k.val) 0#32 = 1#1 := fun hc =>
    Nat.not_lt_zero _ (Fin.lt_def.1 ((slt_iff k 0).1 hc))
  rw [h, (bit _).resolve_right hn]
  rfl

end Cert.R.Run

end

end
-- ==== Proof.Ref.Read.lean ====
module

public import proofs.«01_k».proof.Proof.Ref.Run
public import proofs.«01_k».proof.Proof.Value.Cast
public import Idealize.ShloMosaic.Lib.Pointwise

/-! What the reference's arrays hold, entry by entry, when the rows and the weights are real. -/

@[expose] public section

set_option maxRecDepth 16384

noncomputable section

namespace Cert.R.Run

open Idealize.ShloMosaic Cert.Near
open Cert.ReferenceIdeal

variable {x : FVec Ideal S4096x256 .f32} {X : Fin 4096 → Fin 256 → ℝ} (hx : ∀ r d, x (ix2 r d) = ((X r d : ℝ) : EReal))
variable {w : FVec Ideal S256x4096 .f32} {W : Fin 256 → Fin 4096 → ℝ} (hw : ∀ d k, w (ix2 d k) = ((W d k : ℝ) : EReal))

include hx hw in
theorem squares_at (r k : Fin 4096) : squares x w (ix2 r k) = ((far (X r) W k : ℝ) : EReal) := by
  pointwise [squares]
  simp only [hx, hw, lit_two, lit_e, lit_c, mul_coe, sum_coe, add_coe, sub_coe]
  rfl

include hx hw in
theorem dist_at (r k : Fin 4096) : dist x w (ix2 r k) = ((Near.dist (X r) W k : ℝ) : EReal) := by
  pointwise [dist]
  rw [squares_at hx hw, ← EReal.coe_zero, max_coe, sqrt_coe (le_max_right _ _)]
  rfl

variable {D : FVec Ideal S4096x4096 .f32} {f : Fin 4096 → Fin 4096 → ℝ} (hD : ∀ r k, D (ix2 r k) = ((f r k : ℝ) : EReal))

include hD in
theorem leasts_at (r : Fin 4096) : leasts D (ix2 r 0) = ((low (f r) : ℝ) : EReal) := by
  pointwise [leasts]
  simp only [hD, lit_top, fold_min_all]

theorem div_rows (a : ℝ) : Ideal.div ((a : ℝ) : EReal) ((4096 : ℝ) : EReal) = ((a / 4096 : ℝ) : EReal) := by
  rw [Ideal.div_coe (by norm_num), mul_coe, mul_one_div]

include hD in
theorem mean_at : mean D ix0 = (((∑ r, low (f r)) / 4096 : ℝ) : EReal) := by
  pointwise [mean]
  simp only [Fin.sum_univ_one, Fin.isValue, leasts_at hD, sum_coe, lit_rows]
  exact div_rows _

end Cert.R.Run

end

end
-- ==== Proof.Ref.Mask.lean ====
module

public import proofs.«01_k».proof.Proof.Ref.Read
public import proofs.«01_k».proof.Proof.Gen.On_apart
public import proofs.«01_k».proof.Proof.Gen.Post_loss_close

/-! The mask and the postcondition, in the reference's own terms. -/

@[expose] public section

set_option maxRecDepth 16384

noncomputable section

namespace Cert.R.Run

open Cert.ReferenceIdeal Cert.Near
open Idealize.ShloMosaic

variable (x : FVec Ideal S4096x256 .f32) (w : FVec Ideal S256x4096 .f32) (g : FVec Ideal S4096x2 .f32)

/-- The rows whose least squared distance reaches `D * eps * eps`. -/
def reach (q : FVec Ideal S4096x4096 .f32) : IVec S4096x1 1 :=
  cmpf .oge (leasts q) (broadcastInDim S4096x1 ![] Cert.On_apart.Gen.bcast_S_S4096x1 (constant (F := Ideal) S_ .f32 0x2F8CBCCC#32))

theorem apart_fst : (Cert.On_apart.fn (F := Ideal) x w g).1 = reach (squares x w) := rfl
theorem apart_snd : (Cert.On_apart.fn (F := Ideal) x w g).2.1
    = broadcastInDim S4096x1x2 ![0, 1] Cert.On_apart.Gen.bcast_S4096x1_S4096x1x2_0_1 (reach (squares x w)) := rfl
theorem apart_last (i : S_.Idx) : (Cert.On_apart.fn (F := Ideal) x w g).2.2 i = 0#1 := rfl

theorem oge_at (q : FVec Ideal S4096x1 .f32) (b : BitVec 32) (j : S4096x1.Idx) :
    cmpf .oge q (broadcastInDim S4096x1 ![] Cert.On_apart.Gen.bcast_S_S4096x1 (constant (F := Ideal) S_ .f32 b)) j
      = Ideal.cmp .oge (q j) (Ideal.ofBits .f32 b) := rfl

theorem reach_at {q : FVec Ideal S4096x4096 .f32} {f : Fin 4096 → Fin 4096 → ℝ} (h : ∀ r k, q (ix2 r k) = ((f r k : ℝ) : EReal)) (r : Fin 4096)
    (hr : reach q (ix2 r 0) = 1#1) : c ≤ low (f r) := by
  unfold reach at hr
  rw [oge_at, cmp_oge, leasts_at h, lit_c] at hr
  exact EReal.coe_le_coe_iff.1 hr

theorem spread_reach (q : IVec S4096x1 1) (r : Fin 4096) (a : Fin 2) :
    broadcastInDim S4096x1x2 ![0, 1] Cert.On_apart.Gen.bcast_S4096x1_S4096x1x2_0_1 q (ix3 r 0 a) = q (ix2 r 0) := by pointwise

/-- The loss within the tolerance of the reference's mean. -/
def close (D : FVec Ideal S4096x4096 .f32) (l : FVec Ideal S_ .f32) : IVec S_ 1 :=
  cmpf .ole (Host.absf (subf l (mean D))) (constant (F := Ideal) S_ .f32 0x37A7C5AC#32)

theorem post_eq (i : IVec S4096x1 32) (p : FVec Ideal S4096x1x2 .f32) (l : FVec Ideal S_ .f32) :
    Cert.Post_loss_close.fn (F := Ideal) x w g i p l = close (dist x w) l := rfl

theorem ole_at (l v : FVec Ideal S_ .f32) (b : BitVec 32) (j : S_.Idx) :
    cmpf .ole (Host.absf (subf l v)) (constant (F := Ideal) S_ .f32 b) j
      = Ideal.cmp .ole (max (l j - v j) (-(l j - v j))) (Ideal.ofBits .f32 b) := rfl

theorem close_of {D : FVec Ideal S4096x4096 .f32} {f : Fin 4096 → Fin 4096 → ℝ} (h : ∀ r k, D (ix2 r k) = ((f r k : ℝ) : EReal))
    {l : FVec Ideal S_ .f32} {s : ℝ} (hl : l ix0 = ((s : ℝ) : EReal)) (hs : |s - (∑ r, low (f r)) / 4096| ≤ tol) (i : S_.Idx) :
    close D l i = 1#1 := by
  obtain rfl : i = ix0 := Subsingleton.elim _ _
  unfold close
  rw [ole_at, cmp_ole, hl, mean_at h, lit_tol, ← EReal.coe_sub, ← EReal.coe_neg, max_coe, EReal.coe_le_coe_iff]
  exact hs

end Cert.R.Run

end

end
-- ==== Proof.Value.Whole.lean ====
module

public import proofs.«01_k».proof.Proof.Value.Array
public import proofs.«01_k».proof.Proof.Value.Pre
public import proofs.«01_k».proof.Proof.Ref.Arg
public import proofs.«01_k».proof.Proof.Ref.Mask

/-! The launch's arrays against the reference's. -/

@[expose] public section

set_option maxRecDepth 16384

noncomputable section

namespace Cert.KernelIdeal.Body

open Cert.KernelIdeal.Gen Cert.Near
open Idealize.ShloMosaic Idealize.ShloMosaic.TcCoe

variable (m : (ℓ : Loc nD τ sig) → Buf (Elt Ideal) ℓ) (c : Dev nD)

/-- The rows, -/
abbrev argX : FVec Ideal S4096x256 .f32 := m ((c : Thread nD τ).loc main_arg0)
/-- the weights -/
abbrev argW : FVec Ideal S256x4096 .f32 := m ((c : Thread nD τ).loc main_arg1)
/-- and the table of places. -/
abbrev argG : FVec Ideal S4096x2 .f32 := m ((c : Thread nD τ).loc main_arg2)

variable {m c} (hp : Cert.Pre_regular.fn (F := Ideal) (argX m c) (argW m c) (argG m c) = fun _ => 1#1)

include hp in
theorem agree_idx (i : S4096x1.Idx) (hi : (Cert.On_apart.fn (F := Ideal) (argX m c) (argW m c) (argG m c)).1 i = 1#1) :
    ((dats m 0 c).arrAt 2 cfg0.N : S4096x1.Idx → BitVec 32) i = Cert.R.Run.column (Cert.R.Run.dist (argX m c) (argW m c)) i := by
  obtain ⟨X, hx⟩ := Cert.Pre_finite.real_x (Cert.Pre_regular.parts hp).1
  obtain ⟨W, hw⟩ := Cert.Pre_finite.real_w (Cert.Pre_regular.parts hp).1
  obtain ⟨r, rfl⟩ : ∃ r, i = ix2 r 0 := ⟨i 0, by
    idx_vars i
    exact congrArg (ix2 _) (Subsingleton.elim _ _)⟩
  rw [Cert.R.Run.apart_fst] at hi
  have hc := Cert.R.Run.reach_at (Cert.R.Run.squares_at hx hw) r hi
  obtain ⟨k, hk⟩ := exists_first (far (X r) W)
  rw [idx_value m hx hw r k hc hk, Cert.R.Run.column_at (Cert.R.Run.dist_at hx hw) r k hk.dist]

include hp in
theorem agree_loc (i : S4096x1x2.Idx) (hi : (Cert.On_apart.fn (F := Ideal) (argX m c) (argW m c) (argG m c)).2.1 i = 1#1) :
    (Pipeline.afterTail₀ cfgs (dats m) 0 (V0 m) [hostOps1] c main_v3 : S4096x1x2.Idx → EReal) i
      = Cert.R.Run.places (Cert.R.Run.column (Cert.R.Run.dist (argX m c) (argW m c))) (argG m c) i := by
  obtain ⟨X, hx⟩ := Cert.Pre_finite.real_x (Cert.Pre_regular.parts hp).1
  obtain ⟨W, hw⟩ := Cert.Pre_finite.real_w (Cert.Pre_regular.parts hp).1
  obtain ⟨r, a, rfl⟩ : ∃ r a, i = ix3 r 0 a := ⟨i 0, i 2, by
    idx_vars i
    exact congrArg (fun z => ix3 _ z _) (Subsingleton.elim _ _)⟩
  rw [Cert.R.Run.apart_snd, Cert.R.Run.spread_reach] at hi
  have hc := Cert.R.Run.reach_at (Cert.R.Run.squares_at hx hw) r hi
  obtain ⟨k, hk⟩ := exists_first (far (X r) W)
  rw [loc_tail, loc_value m hx hw r k a hc hk,
    Cert.R.Run.places_at _ _ r k a (Cert.R.Run.column_at (Cert.R.Run.dist_at hx hw) r k hk.dist),
    Cert.Pre_regular.places hp]

theorem agree_loss (hf : Cert.Pre_finite.fn (F := Ideal) (argX m c) (argW m c) (argG m c) = fun _ => 1#1) (i : IVec S4096x1 32) (p : FVec Ideal S4096x1x2 .f32) :
    Cert.Post_loss_close.fn (F := Ideal) (argX m c) (argW m c) (argG m c) i p
      (Pipeline.afterTail₀ cfgs (dats m) 0 (V0 m) [hostOps1] c main_v2) = fun _ => 1#1 := by
  obtain ⟨X, hx⟩ := Cert.Pre_finite.real_x hf
  obtain ⟨W, hw⟩ := Cert.Pre_finite.real_w hf
  obtain ⟨s, hs, hd⟩ := loss_value m hx hw ix0
  rw [Cert.R.Run.post_eq]
  exact funext (Cert.R.Run.close_of (Cert.R.Run.dist_at hx hw) hs hd)

end Cert.KernelIdeal.Body

end

end
-- ==== Proof.lean ====
module

public import proofs.«01_k».proof.Defs
public import proofs.«01_k».proof.Proof.Kernel.Frame
public import proofs.«01_k».proof.Proof.KernelIdeal.Frame
public import proofs.«01_k».proof.Proof.Value.Whole
public import proofs.«01_k».proof.Proof.Ref.Run

@[expose] public section

set_option maxRecDepth 16384

noncomputable section

namespace Cert.Proof

open Idealize.ShloMosaic Idealize.SL.Sem
open Cert.KernelIdeal.Body

/-- The reference terminates, keeps its arguments and leaves no semaphore raised. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2))
      ∧ r.2.sem = fun _ => 0) :=
  θ_run_mono (Cert.R.Run.run m g) fun _ h => ⟨fun c => (h c).2, sem_eq_zero_of_no_sems rfl _⟩

/-- Kernel and reference give the same index and place on every row that the mask keeps. -/
theorem algebraic : Cert.algebraic_KernelIdeal_ReferenceIdeal_on_apart_pre_regular := by
  intro m g m' g' hp hm
  refine ⟨fun c => Cert.R.Run.column (Cert.R.Run.dist (argX m c) (argW m c)),
    fun c => Cert.R.Run.places (Cert.R.Run.column (Cert.R.Run.dist (argX m c) (argW m c))) (argG m c),
    fun c => Cert.R.Run.mean (Cert.R.Run.dist (argX m c) (argW m c)), ?_, ?_⟩
  · refine θ_run_mono (θ_run_and (run_quiet m g) (frame m g)) fun r h c => ⟨fun i hi => ?_, fun i hi => ?_, fun i hi => ?_, h.2.1 c⟩
    · exact (congrFun ((h.1.1 c).1 2) i).trans (agree_idx (hp c) i hi)
    · exact (congrFun ((h.1.1 c).2 Cert.KernelIdeal.main_v3 (Pipeline.mem_restRefs_of _ (by decide) (by decide))) i).trans (agree_loc (hp c) i hi)
    · exact absurd ((Cert.R.Run.apart_last _ _ _ i).symm.trans hi) (by decide)
  · refine θ_run_mono (Cert.R.Run.run m' g') fun r h c => ?_
    obtain ⟨h0, h1, h2⟩ := hm c
    obtain ⟨⟨e0, e1, e2⟩, ha⟩ := h c
    refine ⟨fun i _ => ?_, fun i _ => ?_, fun i _ => ?_, ha⟩
    · rw [e0, h0, h1]
    · rw [e1, h0, h1, h2]
    · rw [e2, h0, h1]

/-- The kernel's loss is within the stated bound of the mean least distance. -/
theorem loss : Cert.holds_KernelIdeal_loss_close_pre_finite := by
  intro m g hp
  refine θ_run_mono (θ_run_and (run_quiet m g) (frame m g)) fun r h c => ⟨(h.2.1 c).1, (h.2.1 c).2.1, (h.2.1 c).2.2, ?_⟩
  rw [(h.1.1 c).2 Cert.KernelIdeal.main_v2 (Pipeline.mem_restRefs_of _ (by decide) (by decide))]
  exact agree_loss (hp c) _ _

/-- All claims of the certificate together. -/
theorem claim : Cert.Claim := ⟨Cert.Kernel.Gen.facts, Cert.KernelIdeal.Gen.facts, Cert.ReferenceIdeal.Gen.facts, Cert.Pre_regular.Gen.facts, Cert.Pre_finite.Gen.facts, Cert.Post_loss_close.Gen.facts, Cert.On_apart.Gen.facts,
  fun m g _ => Cert.Kernel.Body.frame m g, fun m g _ => frame m g, fun m g _ => frame m g, fun m g _ => frame m g,
  fun m g _ => reference_quiet m g, fun m g _ => reference_quiet m g, trivial, algebraic, loss⟩

end Cert.Proof

end
